-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_max [hPre_finite_max : Cert.Pre_finite_max.Facts] (m : (ℓ : Loc Cert.KernelIdeal.nD Cert.KernelIdeal.τ Cert.KernelIdeal.sig) → Buf (Elt Ideal) ℓ) : Prop :=
  ∀ c : Dev Cert.KernelIdeal.nD,
    (Cert.Pre_finite_max.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_max [hPre_finite_max : Cert.Pre_finite_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_max.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_max [hKernelIdeal : Cert.KernelIdeal.Facts] [hPre_finite_max : Cert.Pre_finite_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_max [hReferenceIdeal : Cert.ReferenceIdeal.Facts] [hPre_finite_max : Cert.Pre_finite_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_max [hKernelIdeal : Cert.KernelIdeal.Facts] [hReferenceIdeal : Cert.ReferenceIdeal.Facts] [hPre_finite_max : Cert.Pre_finite_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_max : Cert.Pre_finite_max.Facts),
    quiescent_Kernel (hKernel := hKernel)
    ∧ quiescent_KernelIdeal (hKernelIdeal := hKernelIdeal)
    ∧ quiescent_KernelIdeal_pre_finite_max (hKernelIdeal := hKernelIdeal) (hPre_finite_max := hPre_finite_max)
    ∧ quiescent_ReferenceIdeal (hReferenceIdeal := hReferenceIdeal)
    ∧ quiescent_ReferenceIdeal_pre_finite_max (hReferenceIdeal := hReferenceIdeal) (hPre_finite_max := hPre_finite_max)
    ∧ preserves_Kernel_KernelIdeal
    ∧ algebraic_KernelIdeal_ReferenceIdeal_pre_finite_max (hKernelIdeal := hKernelIdeal) (hReferenceIdeal := hReferenceIdeal) (hPre_finite_max := hPre_finite_max)
-- ==== Pre_finite_max.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_cst_1 : FVec F S_ .f32 := constant S_ .f32 0x7F800000#32
  let main_v3 : FVec F S128 .f32 := broadcastInDim S128 ![] bcast_S_S128 main_cst_1
  let main_v4 : IVec S128 1 := cmpf .olt main_v0 main_v3
  let main_v5 : IVec S128 1 := andi main_v2 main_v4
  let main_c : IVec S_ 1 := constantI S_ 1 1#1
  let main_v6 : IVec S_ 1 := (fun x v => Host.reduce IntOp.andi x v reducesTo_S128_S_d0 h_S_) main_v5 main_c
  main_v6
-- ==== Kernel.lean ====
abbrev S128x100000 : Shape := ⟨2, ![128, 100000]⟩
abbrev S3x8x100000 : Shape := ⟨3, ![3, 8, 100000]⟩
abbrev S3 : Shape := ⟨1, ![3]⟩
abbrev S2x8x100000 : Shape := ⟨3, ![2, 8, 100000]⟩
abbrev S2 : Shape := ⟨1, ![2]⟩
abbrev S1 : Shape := ⟨1, ![1]⟩
abbrev S_ : Shape := ⟨0, ![]⟩
abbrev S1x8x100000 : Shape := ⟨3, ![1, 8, 100000]⟩
abbrev S8x100000 : Shape := ⟨2, ![8, 100000]⟩
abbrev S8x512 : Shape := ⟨2, ![8, 512]⟩
abbrev S8 : Shape := ⟨1, ![8]⟩
abbrev S8x1 : Shape := ⟨2, ![8, 1]⟩
abbrev S8x160 : Shape := ⟨2, ![8, 160]⟩
abbrev S8x2048 : Shape := ⟨2, ![8, 2048]⟩
abbrev S8x1696 : Shape := ⟨2, ![8, 1696]⟩

abbrev nBuf : Space → Nat
  | .hbm => 2
  | .vmem => 2
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S3x8x100000, .f32⟩
  | .local _ .vmem, ⟨1, _⟩ => ⟨S2x8x100000, .f32⟩
  | _, _ => ⟨S128x100000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scoped0 : Ref sig .tc := ⟨.vmem, 0, rfl⟩
abbrev cc0_scoped2 : Ref sig .tc := ⟨.vmem, 1, rfl⟩

abbrev nD : Nat := 1
abbrev τ : Topo := Topo.v7x

variable {F : FTy → Type} [FloatOps F]

abbrev grid0 : Pipeline.Grid := .none

def k0_off1 : Fin 1 → Nat :=
  let c0_i32_17_r0 : BitVec 32 := 0#32
  let c3_i32_r0 : BitVec 32 := 3#32
  let v20_r0 : BitVec 32 := Scalar.remui c0_i32_17_r0 c3_i32_r0
  ![v20_r0.toNat]
def k0_off2 : Fin 3 → Nat :=
  let c0_i32_17_r0 : BitVec 32 := 0#32
  let c3_i32_r0 : BitVec 32 := 3#32
  let v20_r0 : BitVec 32 := Scalar.remui c0_i32_17_r0 c3_i32_r0
  let c0_i32_18_r0 : BitVec 32 := 0#32
  let c0_i32_19_r0 : BitVec 32 := 0#32
  ![v20_r0.toNat, 0, 0]
def k0_cond1 : BitVec 1 :=
  let true_25_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_24_r0 : BitVec 32 := 0#32
  let v27_r0 : BitVec 1 := Scalar.cmpi .ne v9_r0 c0_i32_24_r0
  let v28_r0 : BitVec 1 := Scalar.andi true_25_r0 v27_r0
  let true_26_r0 : BitVec 1 := 1#1
  let v29_r0 : BitVec 1 := Scalar.andi v28_r0 true_26_r0
  let v30_r0 : BitVec 32 := Scalar.extui v29_r0
  let c0_i32_27_r0 : BitVec 32 := 0#32
  let v31_r0 : BitVec 1 := Scalar.cmpi .ne v30_r0 c0_i32_27_r0
  v31_r0

def k0_off3 : Fin 1 → Nat :=
  let c0_i32_22_r0 : BitVec 32 := 0#32
  let c1_i32_23_r0 : BitVec 32 := 1#32
  let v26_r0 : BitVec 32 := Scalar.addi c0_i32_22_r0 c1_i32_23_r0
  let c3_i32_65_r0 : BitVec 32 := 3#32
  let v68_r0 : BitVec 32 := Scalar.remui v26_r0 c3_i32_65_r0
  ![v68_r0.toNat]
def k0_off4 : Fin 3 → Nat :=
  let c0_i32_22_r0 : BitVec 32 := 0#32
  let c1_i32_23_r0 : BitVec 32 := 1#32
  let v26_r0 : BitVec 32 := Scalar.addi c0_i32_22_r0 c1_i32_23_r0
  let c3_i32_65_r0 : BitVec 32 := 3#32
  let v68_r0 : BitVec 32 := Scalar.remui v26_r0 c3_i32_65_r0
  let c0_i32_67_r0 : BitVec 32 := 0#32
  let c0_i32_68_r0 : BitVec 32 := 0#32
  ![v68_r0.toNat, 0, 0]
def k0_off5 : Fin 2 → Nat :=
  let c8_i32_66_r0 : BitVec 32 := 8#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v69_r0 : BitVec 32 := Scalar.muli c8_i32_66_r0 v9_r0
  let c0_i32_69_r0 : BitVec 32 := 0#32
  ![v69_r0.toNat, 0]
@[reducible] def k0_t1_loop : Scf.Loop 32 :=
  let c0_i32_33_r0 : BitVec 32 := 0#32
  let c16_i32_34_r0 : BitVec 32 := 16#32
  let v34_r0 : BitVec 32 := Scalar.addi c0_i32_33_r0 c16_i32_34_r0
  let c1_i32_35_r0 : BitVec 32 := 1#32
  ⟨c0_i32_33_r0, v34_r0, c1_i32_35_r0⟩
def k0_off6 (arg3_r0 : BitVec 32) : Fin 1 → Nat :=
  let c3_i32_12899_r0 : BitVec 32 := 3#32
  let v38647_r0 : BitVec 32 := Scalar.remui arg3_r0 c3_i32_12899_r0
  ![v38647_r0.toNat]
def k0_cond2 (k0_t1 : Fin k0_t1_loop.trips) (arg7_r0 : BitVec 32) : BitVec 1 :=
  let true_74_r0 : BitVec 1 := 1#1
  let c1_i32_73_r0 : BitVec 32 := 1#32
  let v76_r0 : BitVec 32 := Scalar.addi arg7_r0 c1_i32_73_r0
  let v77_r0 : BitVec 32 := Scalar.select true_74_r0 v76_r0 arg7_r0
  let c16_i32_75_r0 : BitVec 32 := 16#32
  let v78_r0 : BitVec 1 := Scalar.cmpi .eq v77_r0 c16_i32_75_r0
  let c0_i32_76_r0 : BitVec 32 := 0#32
  let v79_r0 : BitVec 32 := Scalar.select v78_r0 c0_i32_76_r0 v77_r0
  let c0_i32_77_r0 : BitVec 32 := 0#32
  let v80_r0 : BitVec 32 := Scalar.addi v79_r0 c0_i32_77_r0
  let true_79_r0 : BitVec 1 := 1#1
  let c1_i32_78_r0 : BitVec 32 := 1#32
  let v81_r0 : BitVec 32 := Scalar.addi v79_r0 c1_i32_78_r0
  let v82_r0 : BitVec 32 := Scalar.select true_79_r0 v81_r0 v79_r0
  let c16_i32_80_r0 : BitVec 32 := 16#32
  let v83_r0 : BitVec 1 := Scalar.cmpi .eq v82_r0 c16_i32_80_r0
  let c0_i32_81_r0 : BitVec 32 := 0#32
  let v84_r0 : BitVec 32 := Scalar.select v83_r0 c0_i32_81_r0 v82_r0
  let c0_i32_82_r0 : BitVec 32 := 0#32
  let v85_r0 : BitVec 32 := Scalar.addi v84_r0 c0_i32_82_r0
  let v91_r0 : BitVec 1 := Scalar.cmpi .ne v80_r0 v85_r0
  let c0_i32_33_r0 : BitVec 32 := 0#32
  let c1_i32_35_r0 : BitVec 32 := 1#32
  let arg2_r0 : BitVec 32 := Scf.iv c0_i32_33_r0 c1_i32_35_r0 k0_t1
  let c14_i32_r0 : BitVec 32 := 14#32
  let v92_r0 : BitVec 1 := Scalar.cmpi .sge arg2_r0 c14_i32_r0
  let true_88_r0 : BitVec 1 := 1#1
  let v93_r0 : BitVec 1 := Scalar.xori v92_r0 true_88_r0
  let v94_r0 : BitVec 1 := Scalar.andi v91_r0 v93_r0
  let true_89_r0 : BitVec 1 := 1#1
  let v95_r0 : BitVec 1 := Scalar.andi v94_r0 true_89_r0
  let v96_r0 : BitVec 32 := Scalar.extui v95_r0
  let c0_i32_90_r0 : BitVec 32 := 0#32
  let v97_r0 : BitVec 1 := Scalar.cmpi .ne v96_r0 c0_i32_90_r0
  v97_r0

def k0_off7 (arg3_r0 : BitVec 32) : Fin 3 → Nat :=
  let c3_i32_12899_r0 : BitVec 32 := 3#32
  let v38647_r0 : BitVec 32 := Scalar.remui arg3_r0 c3_i32_12899_r0
  let c0_i32_12901_r0 : BitVec 32 := 0#32
  let c0_i32_12902_r0 : BitVec 32 := 0#32
  ![v38647_r0.toNat, 0, 0]
def k0_off8 (arg7_r0 : BitVec 32) : Fin 2 → Nat :=
  let c8_i32_12900_r0 : BitVec 32 := 8#32
  let true_79_r0 : BitVec 1 := 1#1
  let true_74_r0 : BitVec 1 := 1#1
  let c1_i32_73_r0 : BitVec 32 := 1#32
  let v76_r0 : BitVec 32 := Scalar.addi arg7_r0 c1_i32_73_r0
  let v77_r0 : BitVec 32 := Scalar.select true_74_r0 v76_r0 arg7_r0
  let c16_i32_75_r0 : BitVec 32 := 16#32
  let v78_r0 : BitVec 1 := Scalar.cmpi .eq v77_r0 c16_i32_75_r0
  let c0_i32_76_r0 : BitVec 32 := 0#32
  let v79_r0 : BitVec 32 := Scalar.select v78_r0 c0_i32_76_r0 v77_r0
  let c1_i32_78_r0 : BitVec 32 := 1#32
  let v81_r0 : BitVec 32 := Scalar.addi v79_r0 c1_i32_78_r0
  let v82_r0 : BitVec 32 := Scalar.select true_79_r0 v81_r0 v79_r0
  let c16_i32_80_r0 : BitVec 32 := 16#32
  let v83_r0 : BitVec 1 := Scalar.cmpi .eq v82_r0 c16_i32_80_r0
  let c0_i32_81_r0 : BitVec 32 := 0#32
  let v84_r0 : BitVec 32 := Scalar.select v83_r0 c0_i32_81_r0 v82_r0
  let c0_i32_82_r0 : BitVec 32 := 0#32
  let v85_r0 : BitVec 32 := Scalar.addi v84_r0 c0_i32_82_r0
  let v38648_r0 : BitVec 32 := Scalar.muli c8_i32_12900_r0 v85_r0
  let c0_i32_12903_r0 : BitVec 32 := 0#32
  ![v38648_r0.toNat, 0]
def k0_off9 (arg4_r0 : BitVec 32) : Fin 1 → Nat :=
  let c3_i32_12900_r0 : BitVec 32 := 3#32
  let v38648_r0 : BitVec 32 := Scalar.remui arg4_r0 c3_i32_12900_r0
  ![v38648_r0.toNat]
def k0_cond3 (k0_t1 : Fin k0_t1_loop.trips) (arg7_r0 : BitVec 32) : BitVec 1 :=
  let c0_i32_67_r0 : BitVec 32 := 0#32
  let v70_r0 : BitVec 32 := Scalar.addi arg7_r0 c0_i32_67_r0
  let true_69_r0 : BitVec 1 := 1#1
  let c1_i32_68_r0 : BitVec 32 := 1#32
  let v71_r0 : BitVec 32 := Scalar.subi arg7_r0 c1_i32_68_r0
  let v72_r0 : BitVec 32 := Scalar.select true_69_r0 v71_r0 arg7_r0
  let c_m1_i32_70_r0 : BitVec 32 := 4294967295#32
  let v73_r0 : BitVec 1 := Scalar.cmpi .eq v72_r0 c_m1_i32_70_r0
  let c15_i32_71_r0 : BitVec 32 := 15#32
  let v74_r0 : BitVec 32 := Scalar.select v73_r0 c15_i32_71_r0 v72_r0
  let c0_i32_72_r0 : BitVec 32 := 0#32
  let v75_r0 : BitVec 32 := Scalar.addi v74_r0 c0_i32_72_r0
  let v105_r0 : BitVec 1 := Scalar.cmpi .ne v70_r0 v75_r0
  let c0_i32_33_r0 : BitVec 32 := 0#32
  let c1_i32_35_r0 : BitVec 32 := 1#32
  let arg2_r0 : BitVec 32 := Scf.iv c0_i32_33_r0 c1_i32_35_r0 k0_t1
  let c0_i32_65_r0 : BitVec 32 := 0#32
  let v68_r0 : BitVec 1 := Scalar.cmpi .eq arg2_r0 c0_i32_65_r0
  let v106_r0 : BitVec 1 := Scalar.ori v105_r0 v68_r0
  let c0_i32_95_r0 : BitVec 32 := 0#32
  let v107_r0 : BitVec 1 := Scalar.cmpi .sge arg2_r0 c0_i32_95_r0
  let v108_r0 : BitVec 1 := Scalar.andi v106_r0 v107_r0
  let v109_r0 : BitVec 32 := Scalar.extui v108_r0
  let c0_i32_96_r0 : BitVec 32 := 0#32
  let v110_r0 : BitVec 1 := Scalar.cmpi .ne v109_r0 c0_i32_96_r0
  v110_r0

def k0_off10 (arg4_r0 : BitVec 32) : Fin 3 → Nat :=
  let c3_i32_12900_r0 : BitVec 32 := 3#32
  let v38648_r0 : BitVec 32 := Scalar.remui arg4_r0 c3_i32_12900_r0
  let c0_i32_12901_r0 : BitVec 32 := 0#32
  let c0_i32_12902_r0 : BitVec 32 := 0#32
  ![v38648_r0.toNat, 0, 0]
def k0_off11 (arg7_r0 : BitVec 32) : Fin 2 → Nat :=
  let c8_i32_12899_r0 : BitVec 32 := 8#32
  let c0_i32_67_r0 : BitVec 32 := 0#32
  let v70_r0 : BitVec 32 := Scalar.addi arg7_r0 c0_i32_67_r0
  let v38647_r0 : BitVec 32 := Scalar.muli c8_i32_12899_r0 v70_r0
  let c0_i32_12903_r0 : BitVec 32 := 0#32
  ![v38647_r0.toNat, 0]
def k0_off12 (arg4_r0 : BitVec 32) : Fin 3 → Nat :=
  let c3_i32_99_r0 : BitVec 32 := 3#32
  let v117_r0 : BitVec 32 := Scalar.remui arg4_r0 c3_i32_99_r0
  let c0_i32_101_r0 : BitVec 32 := 0#32
  let c0_i32_102_r0 : BitVec 32 := 0#32
  ![v117_r0.toNat, 0, 0]

def k0_chk2 (arg4_r0 : BitVec 32) : Prop :=
  (∀ a, (k0_off12 arg4_r0) a + S1x8x100000.size a ≤ S3x8x100000.size a)
theorem k0_off12_inb : ∀ (arg4_r0 : BitVec 32) (k0_hw2 : k0_chk2 arg4_r0), ∀ a, (k0_off12 arg4_r0) a + S1x8x100000.size a ≤ S3x8x100000.size a := fun arg4_r0 k0_hw2 => k0_hw2

def k0_off13 (arg5_r0 : BitVec 32) : Fin 3 → Nat :=
  let c2_i32_100_r0 : BitVec 32 := 2#32
  let v118_r0 : BitVec 32 := Scalar.remui arg5_r0 c2_i32_100_r0
  let c0_i32_12639_r0 : BitVec 32 := 0#32
  let c0_i32_12640_r0 : BitVec 32 := 0#32
  ![v118_r0.toNat, 0, 0]

def k0_chk3 (arg5_r0 : BitVec 32) : Prop :=
  (∀ a, (k0_off13 arg5_r0) a + S1x8x100000.size a ≤ S2x8x100000.size a)
theorem k0_off13_inb : ∀ (arg5_r0 : BitVec 32) (k0_hw3 : k0_chk3 arg5_r0), ∀ a, (k0_off13 arg5_r0) a + S1x8x100000.size a ≤ S2x8x100000.size a := fun arg5_r0 k0_hw3 => k0_hw3

def k0_off14 (arg5_r0 : BitVec 32) : Fin 1 → Nat :=
  let c2_i32_12899_r0 : BitVec 32 := 2#32
  let v38647_r0 : BitVec 32 := Scalar.remui arg5_r0 c2_i32_12899_r0
  ![v38647_r0.toNat]
def k0_cond6 (k0_t1 : Fin k0_t1_loop.trips) (arg7_r0 : BitVec 32) : BitVec 1 :=
  let c0_i32_67_r0 : BitVec 32 := 0#32
  let v70_r0 : BitVec 32 := Scalar.addi arg7_r0 c0_i32_67_r0
  let true_74_r0 : BitVec 1 := 1#1
  let c1_i32_73_r0 : BitVec 32 := 1#32
  let v76_r0 : BitVec 32 := Scalar.addi arg7_r0 c1_i32_73_r0
  let v77_r0 : BitVec 32 := Scalar.select true_74_r0 v76_r0 arg7_r0
  let c16_i32_75_r0 : BitVec 32 := 16#32
  let v78_r0 : BitVec 1 := Scalar.cmpi .eq v77_r0 c16_i32_75_r0
  let c0_i32_76_r0 : BitVec 32 := 0#32
  let v79_r0 : BitVec 32 := Scalar.select v78_r0 c0_i32_76_r0 v77_r0
  let c0_i32_77_r0 : BitVec 32 := 0#32
  let v80_r0 : BitVec 32 := Scalar.addi v79_r0 c0_i32_77_r0
  let v38618_r0 : BitVec 1 := Scalar.cmpi .ne v70_r0 v80_r0
  let c0_i32_33_r0 : BitVec 32 := 0#32
  let c1_i32_35_r0 : BitVec 32 := 1#32
  let arg2_r0 : BitVec 32 := Scf.iv c0_i32_33_r0 c1_i32_35_r0 k0_t1
  let c15_i32_66_r0 : BitVec 32 := 15#32
  let v69_r0 : BitVec 1 := Scalar.cmpi .eq arg2_r0 c15_i32_66_r0
  let v38619_r0 : BitVec 1 := Scalar.ori v38618_r0 v69_r0
  let v38620_r0 : BitVec 32 := Scalar.extui v38619_r0
  let c0_i32_12884_r0 : BitVec 32 := 0#32
  let v38621_r0 : BitVec 1 := Scalar.cmpi .ne v38620_r0 c0_i32_12884_r0
  v38621_r0

def k0_off15 (arg7_r0 : BitVec 32) : Fin 2 → Nat :=
  let c8_i32_12900_r0 : BitVec 32 := 8#32
  let c0_i32_67_r0 : BitVec 32 := 0#32
  let v70_r0 : BitVec 32 := Scalar.addi arg7_r0 c0_i32_67_r0
  let v38648_r0 : BitVec 32 := Scalar.muli c8_i32_12900_r0 v70_r0
  let c0_i32_12901_r0 : BitVec 32 := 0#32
  ![v38648_r0.toNat, 0]
def k0_off16 (arg5_r0 : BitVec 32) : Fin 3 → Nat :=
  let c2_i32_12899_r0 : BitVec 32 := 2#32
  let v38647_r0 : BitVec 32 := Scalar.remui arg5_r0 c2_i32_12899_r0
  let c0_i32_12902_r0 : BitVec 32 := 0#32
  let c0_i32_12903_r0 : BitVec 32 := 0#32
  ![v38647_r0.toNat, 0, 0]
def k0_off17 (arg6_r0 : BitVec 32) : Fin 1 → Nat :=
  let c2_i32_12899_r0 : BitVec 32 := 2#32
  let v38647_r0 : BitVec 32 := Scalar.remui arg6_r0 c2_i32_12899_r0
  ![v38647_r0.toNat]
def k0_cond8 (k0_t1 : Fin k0_t1_loop.trips) (arg7_r0 : BitVec 32) : BitVec 1 :=
  let c0_i32_67_r0 : BitVec 32 := 0#32
  let v70_r0 : BitVec 32 := Scalar.addi arg7_r0 c0_i32_67_r0
  let true_69_r0 : BitVec 1 := 1#1
  let c1_i32_68_r0 : BitVec 32 := 1#32
  let v71_r0 : BitVec 32 := Scalar.subi arg7_r0 c1_i32_68_r0
  let v72_r0 : BitVec 32 := Scalar.select true_69_r0 v71_r0 arg7_r0
  let c_m1_i32_70_r0 : BitVec 32 := 4294967295#32
  let v73_r0 : BitVec 1 := Scalar.cmpi .eq v72_r0 c_m1_i32_70_r0
  let c15_i32_71_r0 : BitVec 32 := 15#32
  let v74_r0 : BitVec 32 := Scalar.select v73_r0 c15_i32_71_r0 v72_r0
  let c0_i32_72_r0 : BitVec 32 := 0#32
  let v75_r0 : BitVec 32 := Scalar.addi v74_r0 c0_i32_72_r0
  let v38631_r0 : BitVec 1 := Scalar.cmpi .ne v70_r0 v75_r0
  let c0_i32_33_r0 : BitVec 32 := 0#32
  let c1_i32_35_r0 : BitVec 32 := 1#32
  let arg2_r0 : BitVec 32 := Scf.iv c0_i32_33_r0 c1_i32_35_r0 k0_t1
  let c0_i32_65_r0 : BitVec 32 := 0#32
  let v68_r0 : BitVec 1 := Scalar.cmpi .eq arg2_r0 c0_i32_65_r0
  let true_12890_r0 : BitVec 1 := 1#1
  let v38632_r0 : BitVec 1 := Scalar.xori v68_r0 true_12890_r0
  let v38633_r0 : BitVec 1 := Scalar.andi v38631_r0 v38632_r0
  let v38634_r0 : BitVec 32 := Scalar.extui v38633_r0
  let c0_i32_12891_r0 : BitVec 32 := 0#32
  let v38635_r0 : BitVec 1 := Scalar.cmpi .ne v38634_r0 c0_i32_12891_r0
  v38635_r0

def k0_off18 (arg7_r0 : BitVec 32) : Fin 2 → Nat :=
  let c8_i32_12900_r0 : BitVec 32 := 8#32
  let true_69_r0 : BitVec 1 := 1#1
  let c1_i32_68_r0 : BitVec 32 := 1#32
  let v71_r0 : BitVec 32 := Scalar.subi arg7_r0 c1_i32_68_r0
  let v72_r0 : BitVec 32 := Scalar.select true_69_r0 v71_r0 arg7_r0
  let c_m1_i32_70_r0 : BitVec 32 := 4294967295#32
  let v73_r0 : BitVec 1 := Scalar.cmpi .eq v72_r0 c_m1_i32_70_r0
  let c15_i32_71_r0 : BitVec 32 := 15#32
  let v74_r0 : BitVec 32 := Scalar.select v73_r0 c15_i32_71_r0 v72_r0
  let c0_i32_72_r0 : BitVec 32 := 0#32
  let v75_r0 : BitVec 32 := Scalar.addi v74_r0 c0_i32_72_r0
  let v38648_r0 : BitVec 32 := Scalar.muli c8_i32_12900_r0 v75_r0
  let c0_i32_12901_r0 : BitVec 32 := 0#32
  ![v38648_r0.toNat, 0]
def k0_off19 (arg6_r0 : BitVec 32) : Fin 3 → Nat :=
  let c2_i32_12899_r0 : BitVec 32 := 2#32
  let v38647_r0 : BitVec 32 := Scalar.remui arg6_r0 c2_i32_12899_r0
  let c0_i32_12902_r0 : BitVec 32 := 0#32
  let c0_i32_12903_r0 : BitVec 32 := 0#32
  ![v38647_r0.toNat, 0, 0]

def k0_chk1 (k0_t1 : Fin k0_t1_loop.trips) (arg3_r0 : BitVec 32) (arg4_r0 : BitVec 32) (arg5_r0 : BitVec 32) (arg6_r0 : BitVec 32) (arg7_r0 : BitVec 32) : Prop :=
  (∀ (k0_h2 : k0_cond2 k0_t1 arg7_r0 = 1#1), ∀ a, (k0_off6 arg3_r0) a + S1.size a ≤ S3.size a) ∧
  (∀ (k0_h2 : k0_cond2 k0_t1 arg7_r0 = 1#1), ∀ a, (k0_off7 arg3_r0) a + S1x8x100000.size a ≤ S3x8x100000.size a) ∧
  (∀ (k0_h2 : k0_cond2 k0_t1 arg7_r0 = 1#1), ∀ a, (k0_off8 arg7_r0) a + S8x100000.size a ≤ S128x100000.size a) ∧
  (∀ (k0_h3 : k0_cond3 k0_t1 arg7_r0 = 1#1), ∀ a, (k0_off9 arg4_r0) a + S1.size a ≤ S3.size a) ∧
  (∀ (k0_h3 : k0_cond3 k0_t1 arg7_r0 = 1#1), ∀ a, (k0_off10 arg4_r0) a + S1x8x100000.size a ≤ S3x8x100000.size a) ∧
  (∀ (k0_h3 : k0_cond3 k0_t1 arg7_r0 = 1#1), ∀ a, (k0_off11 arg7_r0) a + S8x100000.size a ≤ S128x100000.size a) ∧
  (∀ (k0_h6 : k0_cond6 k0_t1 arg7_r0 = 1#1), ∀ a, (k0_off14 arg5_r0) a + S1.size a ≤ S2.size a) ∧
  (∀ (k0_h6 : k0_cond6 k0_t1 arg7_r0 = 1#1), ∀ a, (k0_off15 arg7_r0) a + S8x100000.size a ≤ S128x100000.size a) ∧
  (∀ (k0_h6 : k0_cond6 k0_t1 arg7_r0 = 1#1), ∀ a, (k0_off16 arg5_r0) a + S1x8x100000.size a ≤ S2x8x100000.size a) ∧
  (∀ (k0_h8 : k0_cond8 k0_t1 arg7_r0 = 1#1), ∀ a, (k0_off17 arg6_r0) a + S1.size a ≤ S2.size a) ∧
  (∀ (k0_h8 : k0_cond8 k0_t1 arg7_r0 = 1#1), ∀ a, (k0_off18 arg7_r0) a + S8x100000.size a ≤ S128x100000.size a) ∧
  (∀ (k0_h8 : k0_cond8 k0_t1 arg7_r0 = 1#1), ∀ a, (k0_off19 arg6_r0) a + S1x8x100000.size a ≤ S2x8x100000.size a)
theorem k0_off6_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h2 : k0_cond2 k0_t1 arg7_r0 = 1#1), ∀ a, (k0_off6 arg3_r0) a + S1.size a ≤ S3.size a := fun k0_t1 arg3_r0 arg4_r0 arg5_r0 arg6_r0 arg7_r0 k0_hw1 k0_h2 => k0_hw1.1 k0_h2
theorem k0_off7_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h2 : k0_cond2 k0_t1 arg7_r0 = 1#1), ∀ a, (k0_off7 arg3_r0) a + S1x8x100000.size a ≤ S3x8x100000.size a := fun k0_t1 arg3_r0 arg4_r0 arg5_r0 arg6_r0 arg7_r0 k0_hw1 k0_h2 => k0_hw1.2.1 k0_h2
theorem k0_off8_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h2 : k0_cond2 k0_t1 arg7_r0 = 1#1), ∀ a, (k0_off8 arg7_r0) a + S8x100000.size a ≤ S128x100000.size a := fun k0_t1 arg3_r0 arg4_r0 arg5_r0 arg6_r0 arg7_r0 k0_hw1 k0_h2 => k0_hw1.2.2.1 k0_h2
theorem k0_off9_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h3 : k0_cond3 k0_t1 arg7_r0 = 1#1), ∀ a, (k0_off9 arg4_r0) a + S1.size a ≤ S3.size a := fun k0_t1 arg3_r0 arg4_r0 arg5_r0 arg6_r0 arg7_r0 k0_hw1 k0_h3 => k0_hw1.2.2.2.1 k0_h3
theorem k0_off10_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h3 : k0_cond3 k0_t1 arg7_r0 = 1#1), ∀ a, (k0_off10 arg4_r0) a + S1x8x100000.size a ≤ S3x8x100000.size a := fun k0_t1 arg3_r0 arg4_r0 arg5_r0 arg6_r0 arg7_r0 k0_hw1 k0_h3 => k0_hw1.2.2.2.2.1 k0_h3
theorem k0_off11_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h3 : k0_cond3 k0_t1 arg7_r0 = 1#1), ∀ a, (k0_off11 arg7_r0) a + S8x100000.size a ≤ S128x100000.size a := fun k0_t1 arg3_r0 arg4_r0 arg5_r0 arg6_r0 arg7_r0 k0_hw1 k0_h3 => k0_hw1.2.2.2.2.2.1 k0_h3
theorem k0_off14_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h6 : k0_cond6 k0_t1 arg7_r0 = 1#1), ∀ a, (k0_off14 arg5_r0) a + S1.size a ≤ S2.size a := fun k0_t1 arg3_r0 arg4_r0 arg5_r0 arg6_r0 arg7_r0 k0_hw1 k0_h6 => k0_hw1.2.2.2.2.2.2.1 k0_h6
theorem k0_off15_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h6 : k0_cond6 k0_t1 arg7_r0 = 1#1), ∀ a, (k0_off15 arg7_r0) a + S8x100000.size a ≤ S128x100000.size a := fun k0_t1 arg3_r0 arg4_r0 arg5_r0 arg6_r0 arg7_r0 k0_hw1 k0_h6 => k0_hw1.2.2.2.2.2.2.2.1 k0_h6
theorem k0_off16_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h6 : k0_cond6 k0_t1 arg7_r0 = 1#1), ∀ a, (k0_off16 arg5_r0) a + S1x8x100000.size a ≤ S2x8x100000.size a := fun k0_t1 arg3_r0 arg4_r0 arg5_r0 arg6_r0 arg7_r0 k0_hw1 k0_h6 => k0_hw1.2.2.2.2.2.2.2.2.1 k0_h6
theorem k0_off17_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h8 : k0_cond8 k0_t1 arg7_r0 = 1#1), ∀ a, (k0_off17 arg6_r0) a + S1.size a ≤ S2.size a := fun k0_t1 arg3_r0 arg4_r0 arg5_r0 arg6_r0 arg7_r0 k0_hw1 k0_h8 => k0_hw1.2.2.2.2.2.2.2.2.2.1 k0_h8
theorem k0_off18_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h8 : k0_cond8 k0_t1 arg7_r0 = 1#1), ∀ a, (k0_off18 arg7_r0) a + S8x100000.size a ≤ S128x100000.size a := fun k0_t1 arg3_r0 arg4_r0 arg5_r0 arg6_r0 arg7_r0 k0_hw1 k0_h8 => k0_hw1.2.2.2.2.2.2.2.2.2.2.1 k0_h8
theorem k0_off19_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h8 : k0_cond8 k0_t1 arg7_r0 = 1#1), ∀ a, (k0_off19 arg6_r0) a + S1x8x100000.size a ≤ S2x8x100000.size a := fun k0_t1 arg3_r0 arg4_r0 arg5_r0 arg6_r0 arg7_r0 k0_hw1 k0_h8 => k0_hw1.2.2.2.2.2.2.2.2.2.2.2 k0_h8

def k0_off20 (v35_3_r0 : BitVec 32) : Fin 1 → Nat :=
  let c2_i32_r0 : BitVec 32 := 2#32
  let v61_r0 : BitVec 32 := Scalar.remui v35_3_r0 c2_i32_r0
  ![v61_r0.toNat]

def k0_off21 (v35_4_r0 : BitVec 32) : Fin 2 → Nat :=
  let c8_i32_r0 : BitVec 32 := 8#32
  let true_38_r0 : BitVec 1 := 1#1
  let c1_i32_37_r0 : BitVec 32 := 1#32
  let v36_r0 : BitVec 32 := Scalar.subi v35_4_r0 c1_i32_37_r0
  let v37_r0 : BitVec 32 := Scalar.select true_38_r0 v36_r0 v35_4_r0
  let c_m1_i32_39_r0 : BitVec 32 := 4294967295#32
  let v38_r0 : BitVec 1 := Scalar.cmpi .eq v37_r0 c_m1_i32_39_r0
  let c15_i32_40_r0 : BitVec 32 := 15#32
  let v39_r0 : BitVec 32 := Scalar.select v38_r0 c15_i32_40_r0 v37_r0
  let c0_i32_41_r0 : BitVec 32 := 0#32
  let v40_r0 : BitVec 32 := Scalar.addi v39_r0 c0_i32_41_r0
  let v62_r0 : BitVec 32 := Scalar.muli c8_i32_r0 v40_r0
  let c0_i32_62_r0 : BitVec 32 := 0#32
  ![v62_r0.toNat, 0]

def k0_chk5 (v35_4_r0 : BitVec 32) : Prop :=
  (∀ a, (k0_off21 v35_4_r0) a + S8x100000.size a ≤ S128x100000.size a)
theorem k0_off21_inb : ∀ (v35_4_r0 : BitVec 32) (k0_hw5 : k0_chk5 v35_4_r0), ∀ a, (k0_off21 v35_4_r0) a + S8x100000.size a ≤ S128x100000.size a := fun v35_4_r0 k0_hw5 => k0_hw5

def k0_off22 (v35_3_r0 : BitVec 32) : Fin 3 → Nat :=
  let c2_i32_r0 : BitVec 32 := 2#32
  let v61_r0 : BitVec 32 := Scalar.remui v35_3_r0 c2_i32_r0
  let c0_i32_63_r0 : BitVec 32 := 0#32
  let c0_i32_64_r0 : BitVec 32 := 0#32
  ![v61_r0.toNat, 0, 0]

def k0_chk4 (v35_3_r0 : BitVec 32) : Prop :=
  (∀ a, (k0_off20 v35_3_r0) a + S1.size a ≤ S2.size a) ∧
  (∀ a, (k0_off22 v35_3_r0) a + S1x8x100000.size a ≤ S2x8x100000.size a)
theorem k0_off20_inb : ∀ (v35_3_r0 : BitVec 32) (k0_hw4 : k0_chk4 v35_3_r0), ∀ a, (k0_off20 v35_3_r0) a + S1.size a ≤ S2.size a := fun v35_3_r0 k0_hw4 => k0_hw4.1
theorem k0_off22_inb : ∀ (v35_3_r0 : BitVec 32) (k0_hw4 : k0_chk4 v35_3_r0), ∀ a, (k0_off22 v35_3_r0) a + S1x8x100000.size a ≤ S2x8x100000.size a := fun v35_3_r0 k0_hw4 => k0_hw4.2
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S1x100000 : Shape := ⟨2, ![1, 100000]⟩

abbrev nBuf : Space → Nat
  | .hbm => 296
  | .vmem => 0
  | .smem => 0
  | _ => 0

abbrev hbmTy0_0 (i : Nat) : BufTy := match i % 128 with
  | 0 => ⟨S128x100000, .f32⟩
  | 1 => ⟨S_, .f32⟩
  | 2 => ⟨S128x100000, .f32⟩
  | 3 => ⟨S128x100000, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x100000, .f32⟩
  | 11 => ⟨S128x100000, .f32⟩
  | 12 => ⟨S128x100000, .f32⟩
  | 13 => ⟨S_, .f32⟩
  | 14 => ⟨S128, .f32⟩
  | 15 => ⟨S128x1, .f32⟩
  | 16 => ⟨S128x100000, .f32⟩
  | 17 => ⟨S128x100000, .f32⟩
  | 18 => ⟨S128x100000, .f32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S_, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .f32⟩
  | 10 => ⟨S_, .f32⟩
  | 11 => ⟨S128x100000, .f32⟩
  | 12 => ⟨S128x100000, .f32⟩
  | 13 => ⟨S_, .f32⟩
  | 14 => ⟨S128x100000, .f32⟩
  | 15 => ⟨S128x100000, .f32⟩
  | 16 => ⟨S_, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S128x100000, .i32⟩
  | 28 => ⟨S_, .f32⟩
  | 29 => ⟨S_, .i32⟩
  | 30 => ⟨S128, .f32⟩
  | 31 => ⟨S128, .i32⟩
  | 32 => ⟨S128x1, .i32⟩
  | 33 => ⟨S1x100000, .i32⟩
  | 34 => ⟨S128x100000, .i32⟩
  | 35 => ⟨S128x100000, .i32⟩
  | 36 => ⟨S128x100000, .i1⟩
  | 37 => ⟨S128x100000, .f32⟩
  | 38 => ⟨S128x100000, .f32⟩
  | 39 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_6 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_8 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_10 : Ref sig .tc := ⟨.hbm, 52, rfl⟩
abbrev main_v39 : Ref sig .tc := ⟨.hbm, 53, rfl⟩
abbrev main_v40 : Ref sig .tc := ⟨.hbm, 54, rfl⟩
abbrev main_c_11 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_12 : Ref sig .tc := ⟨.hbm, 61, rfl⟩
abbrev main_v46 : Ref sig .tc := ⟨.hbm, 62, rfl⟩
abbrev main_v47 : Ref sig .tc := ⟨.hbm, 63, rfl⟩
abbrev main_c_13 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_14 : Ref sig .tc := ⟨.hbm, 69, rfl⟩
abbrev main_v52 : Ref sig .tc := ⟨.hbm, 70, rfl⟩
abbrev main_v53 : Ref sig .tc := ⟨.hbm, 71, rfl⟩
abbrev main_c_15 : Ref sig .tc := ⟨.hbm, 72, rfl⟩
abbrev main_v54 : Ref sig .tc := ⟨.hbm, 73, rfl⟩
abbrev main_v55 : Ref sig .tc := ⟨.hbm, 74, rfl⟩
abbrev main_c_16 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_17 : Ref sig .tc := ⟨.hbm, 79, rfl⟩
abbrev main_v59 : Ref sig .tc := ⟨.hbm, 80, rfl⟩
abbrev main_v60 : Ref sig .tc := ⟨.hbm, 81, rfl⟩
abbrev main_c_18 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_19 : Ref sig .tc := ⟨.hbm, 88, rfl⟩
abbrev main_v66 : Ref sig .tc := ⟨.hbm, 89, rfl⟩
abbrev main_v67 : Ref sig .tc := ⟨.hbm, 90, rfl⟩
abbrev main_c_20 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_21 : Ref sig .tc := ⟨.hbm, 97, rfl⟩
abbrev main_v73 : Ref sig .tc := ⟨.hbm, 98, rfl⟩
abbrev main_v74 : Ref sig .tc := ⟨.hbm, 99, rfl⟩
abbrev main_c_22 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_23 : Ref sig .tc := ⟨.hbm, 106, rfl⟩
abbrev main_v80 : Ref sig .tc := ⟨.hbm, 107, rfl⟩
abbrev main_v81 : Ref sig .tc := ⟨.hbm, 108, rfl⟩
abbrev main_c_24 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_25 : Ref sig .tc := ⟨.hbm, 114, rfl⟩
abbrev main_v86 : Ref sig .tc := ⟨.hbm, 115, rfl⟩
abbrev main_v87 : Ref sig .tc := ⟨.hbm, 116, rfl⟩
abbrev main_c_26 : Ref sig .tc := ⟨.hbm, 117, rfl⟩
abbrev main_v88 : Ref sig .tc := ⟨.hbm, 118, rfl⟩
abbrev main_v89 : Ref sig .tc := ⟨.hbm, 119, rfl⟩
abbrev main_c_27 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_28 : Ref sig .tc := ⟨.hbm, 124, rfl⟩
abbrev main_v93 : Ref sig .tc := ⟨.hbm, 125, rfl⟩
abbrev main_v94 : Ref sig .tc := ⟨.hbm, 126, rfl⟩
abbrev main_c_29 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_30 : Ref sig .tc := ⟨.hbm, 133, rfl⟩
abbrev main_v100 : Ref sig .tc := ⟨.hbm, 134, rfl⟩
abbrev main_v101 : Ref sig .tc := ⟨.hbm, 135, rfl⟩
abbrev main_c_31 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_32 : Ref sig .tc := ⟨.hbm, 142, rfl⟩
abbrev main_v107 : Ref sig .tc := ⟨.hbm, 143, rfl⟩
abbrev main_v108 : Ref sig .tc := ⟨.hbm, 144, rfl⟩
abbrev main_c_33 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_34 : Ref sig .tc := ⟨.hbm, 151, rfl⟩
abbrev main_v114 : Ref sig .tc := ⟨.hbm, 152, rfl⟩
abbrev main_v115 : Ref sig .tc := ⟨.hbm, 153, rfl⟩
abbrev main_c_35 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_36 : Ref sig .tc := ⟨.hbm, 159, rfl⟩
abbrev main_v120 : Ref sig .tc := ⟨.hbm, 160, rfl⟩
abbrev main_v121 : Ref sig .tc := ⟨.hbm, 161, rfl⟩
abbrev main_c_37 : Ref sig .tc := ⟨.hbm, 162, rfl⟩
abbrev main_v122 : Ref sig .tc := ⟨.hbm, 163, rfl⟩
abbrev main_v123 : Ref sig .tc := ⟨.hbm, 164, rfl⟩
abbrev main_c_38 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_39 : Ref sig .tc := ⟨.hbm, 169, rfl⟩
abbrev main_v127 : Ref sig .tc := ⟨.hbm, 170, rfl⟩
abbrev main_v128 : Ref sig .tc := ⟨.hbm, 171, rfl⟩
abbrev main_c_40 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_41 : Ref sig .tc := ⟨.hbm, 178, rfl⟩
abbrev main_v134 : Ref sig .tc := ⟨.hbm, 179, rfl⟩
abbrev main_v135 : Ref sig .tc := ⟨.hbm, 180, rfl⟩
abbrev main_c_42 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_43 : Ref sig .tc := ⟨.hbm, 187, rfl⟩
abbrev main_v141 : Ref sig .tc := ⟨.hbm, 188, rfl⟩
abbrev main_v142 : Ref sig .tc := ⟨.hbm, 189, rfl⟩
abbrev main_c_44 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_c_45 : Ref sig .tc := ⟨.hbm, 196, rfl⟩
abbrev main_v148 : Ref sig .tc := ⟨.hbm, 197, rfl⟩
abbrev main_v149 : Ref sig .tc := ⟨.hbm, 198, rfl⟩
abbrev main_c_46 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_47 : Ref sig .tc := ⟨.hbm, 204, rfl⟩
abbrev main_v154 : Ref sig .tc := ⟨.hbm, 205, rfl⟩
abbrev main_v155 : Ref sig .tc := ⟨.hbm, 206, rfl⟩
abbrev main_c_48 : Ref sig .tc := ⟨.hbm, 207, rfl⟩
abbrev main_v156 : Ref sig .tc := ⟨.hbm, 208, rfl⟩
abbrev main_v157 : Ref sig .tc := ⟨.hbm, 209, rfl⟩
abbrev main_c_49 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_50 : Ref sig .tc := ⟨.hbm, 214, rfl⟩
abbrev main_v161 : Ref sig .tc := ⟨.hbm, 215, rfl⟩
abbrev main_v162 : Ref sig .tc := ⟨.hbm, 216, rfl⟩
abbrev main_c_51 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_52 : Ref sig .tc := ⟨.hbm, 223, rfl⟩
abbrev main_v168 : Ref sig .tc := ⟨.hbm, 224, rfl⟩
abbrev main_v169 : Ref sig .tc := ⟨.hbm, 225, rfl⟩
abbrev main_c_53 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_54 : Ref sig .tc := ⟨.hbm, 232, rfl⟩
abbrev main_v175 : Ref sig .tc := ⟨.hbm, 233, rfl⟩
abbrev main_v176 : Ref sig .tc := ⟨.hbm, 234, rfl⟩
abbrev main_c_55 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_c_56 : Ref sig .tc := ⟨.hbm, 241, rfl⟩
abbrev main_v182 : Ref sig .tc := ⟨.hbm, 242, rfl⟩
abbrev main_v183 : Ref sig .tc := ⟨.hbm, 243, rfl⟩
abbrev main_c_57 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_c_58 : Ref sig .tc := ⟨.hbm, 249, rfl⟩
abbrev main_v188 : Ref sig .tc := ⟨.hbm, 250, rfl⟩
abbrev main_v189 : Ref sig .tc := ⟨.hbm, 251, rfl⟩
abbrev main_c_59 : Ref sig .tc := ⟨.hbm, 252, rfl⟩
abbrev main_v190 : Ref sig .tc := ⟨.hbm, 253, rfl⟩
abbrev main_v191 : Ref sig .tc := ⟨.hbm, 254, rfl⟩
abbrev main_c_60 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_c_61 : Ref sig .tc := ⟨.hbm, 259, rfl⟩
abbrev main_v195 : Ref sig .tc := ⟨.hbm, 260, rfl⟩
abbrev main_v196 : Ref sig .tc := ⟨.hbm, 261, rfl⟩
abbrev main_c_62 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_cst_63 : Ref sig .tc := ⟨.hbm, 266, rfl⟩
abbrev main_v200 : Ref sig .tc := ⟨.hbm, 267, rfl⟩
abbrev main_v201 : Ref sig .tc := ⟨.hbm, 268, rfl⟩
abbrev main_cst_64 : Ref sig .tc := ⟨.hbm, 269, rfl⟩
abbrev main_v202 : Ref sig .tc := ⟨.hbm, 270, rfl⟩
abbrev main_v203 : Ref sig .tc := ⟨.hbm, 271, rfl⟩
abbrev main_cst_65 : Ref sig .tc := ⟨.hbm, 272, rfl⟩
abbrev main_v204 : Ref sig .tc := ⟨.hbm, 273, rfl⟩
abbrev main_v205 : Ref sig .tc := ⟨.hbm, 274, rfl⟩
abbrev main_cst_66 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_call0_v0 : Ref sig .tc := ⟨.hbm, 283, rfl⟩
abbrev main_call0_cst : Ref sig .tc := ⟨.hbm, 284, rfl⟩
abbrev main_call0_c : Ref sig .tc := ⟨.hbm, 285, rfl⟩
abbrev main_call0_v1_0 : Ref sig .tc := ⟨.hbm, 286, rfl⟩
abbrev main_v213 : Ref sig .tc := ⟨.hbm, 287, rfl⟩
abbrev main_call1_v0 : Ref sig .tc := ⟨.hbm, 288, rfl⟩
abbrev main_call1_v1 : Ref sig .tc := ⟨.hbm, 289, rfl⟩
abbrev main_call1_v2 : Ref sig .tc := ⟨.hbm, 290, rfl⟩
abbrev main_call1_v3 : Ref sig .tc := ⟨.hbm, 291, rfl⟩
abbrev main_call1_v4 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩

abbrev nD : Nat := 1
abbrev τ : Topo := Topo.v7x

variable {F : FTy → Type} [FloatOps F]
-- ==== Proof.Body.lean ====
module

public import proofs.«01_k».proof.Proof.Gen.KernelIdeal

@[expose] public section

noncomputable section

namespace Cert.Proof.Body

open Cert.KernelIdeal Cert.KernelIdeal.Facts₀ Cert.KernelIdeal.Facts
open Idealize.ShloMosaic Idealize.SL.Sem

variable {F : FTy → Type} [FloatOps F]

/-- Left rotation by `a` bits, `b` being 32 - a. -/
def rotl {s : Shape} (x : IVec s 32) (a b : BitVec 32) : IVec s 32 :=
  ori (shli x (broadcast s a)) (shrui x (broadcast s b))

/-- The second word of a mixing step. -/
def mixY {s : Shape} (x y : IVec s 32) (a b : BitVec 32) : IVec s 32 := xori x (rotl y a b)

/-- The second word of a key injection. -/
def injY {s : Shape} (y : IVec s 32) (k c : BitVec 32) : IVec s 32 :=
  addi (addi y (broadcast s k)) (broadcast s c)

/-- The kernel's hash of the shifted counter `j`. -/
def hash {s : Shape} (j : IVec s 32) : IVec s 32 :=
  let y1 := mixY j j 13#32 19#32
  let x1 := addi j y1
  let y2 := mixY x1 y1 15#32 17#32
  let x2 := addi x1 y2
  let y3 := mixY x2 y2 26#32 6#32
  let x3 := addi x2 y3
  let y4 := mixY x3 y3 6#32 26#32
  let a0 := addi x3 (broadcast s 42#32)
  let b0 := injY y4 466689008#32 1#32
  let c0 := addi a0 b0
  let y5 := mixY c0 b0 17#32 15#32
  let x5 := addi c0 y5
  let y6 := mixY x5 y5 29#32 3#32
  let x6 := addi x5 y6
  let y7 := mixY x6 y6 16#32 16#32
  let x7 := addi x6 y7
  let y8 := mixY x7 y7 24#32 8#32
  let a1 := addi x7 (broadcast s 466689008#32)
  let b1 := injY y8 0#32 2#32
  let c1 := addi a1 b1
  let y9 := mixY c1 b1 13#32 19#32
  let x9 := addi c1 y9
  let y10 := mixY x9 y9 15#32 17#32
  let x10 := addi x9 y10
  let y11 := mixY x10 y10 26#32 6#32
  let x11 := addi x10 y11
  let y12 := mixY x11 y11 6#32 26#32
  let a2 := addi x11 (broadcast s 0#32)
  let b2 := injY y12 42#32 3#32
  let c2 := addi a2 b2
  let y13 := mixY c2 b2 17#32 15#32
  let x13 := addi c2 y13
  let y14 := mixY x13 y13 29#32 3#32
  let x14 := addi x13 y14
  let y15 := mixY x14 y14 16#32 16#32
  let x15 := addi x14 y15
  let y16 := mixY x15 y15 24#32 8#32
  let a3 := addi x15 (broadcast s 42#32)
  let b3 := injY y16 466689008#32 4#32
  let c3 := addi a3 b3
  let y17 := mixY c3 b3 13#32 19#32
  let x17 := addi c3 y17
  let y18 := mixY x17 y17 15#32 17#32
  let x18 := addi x17 y18
  let y19 := mixY x18 y18 26#32 6#32
  let x19 := addi x18 y19
  let y20 := mixY x19 y19 6#32 26#32
  let a4 := addi x19 (broadcast s 466689008#32)
  let b4 := injY y20 0#32 5#32
  xori a4 b4

/-- The bits of the uniform draw, in the format of a float in [1, 2). -/
def bits {s : Shape} (j : IVec s 32) : IVec s 32 :=
  ori (shrui (hash j) (broadcast s 9#32)) (broadcast s 1065353216#32)

/-- The score of the entries `x` at the shifted counters `j`. -/
def score {s : Shape} (j : IVec s 32) (x : FVec F s .f32) : FVec F s .f32 :=
  subf x (log (subf (broadcast s (Scalar.ofBits .f32 0x00000000#32)) (log (addf (subf
    (bitcastToFloat .f32 (bits j)) (broadcast s (Scalar.ofBits .f32 0x3F800000#32)))
      (broadcast s (Scalar.ofBits .f32 0x00800000#32))))))

variable [Facts]

abbrev P (F : FTy → Type) [FloatOps F] : Type → Type 1 := Prog (TpuEff nD τ sig (Elt F) Λ₀ .tc)

/-- The score of the chunk `k`, `j` the first chunk's shifted counters. -/
def chunkScore (j : IVec S8x512 32) (k : ℕ) (x : FVec F S8x512 .f32) : FVec F S8x512 .f32 :=
  score (addi j (broadcast S8x512 (BitVec.ofNat 32 (k * 512)))) x

/-- The running maximum's columns after the chunk `k`, `b` and `i` the maximum and its columns before it. -/
def stepIdx (j c : IVec S8x512 32) (k : ℕ) (b : FVec F S8x512 .f32) (i : IVec S8x512 32) (x : FVec F S8x512 .f32) :
    IVec S8x512 32 :=
  select (cmpf .ogt (chunkScore j k x) b) (addi c (broadcast S8x512 (BitVec.ofNat 32 (k * 512)))) i

/-- The running maximum after the chunk `k`. -/
def stepMax (j : IVec S8x512 32) (k : ℕ) (b : FVec F S8x512 .f32) (x : FVec F S8x512 .f32) : FVec F S8x512 .f32 :=
  maximumf b (chunkScore j k x)

theorem inb512 (k : ℕ) (h : k < 195) : ∀ a, (![0, k * 512] : Fin 2 → Nat) a + S8x512.size a ≤ S8x100000.size a := by
  intro a
  fin_cases a
  · show 0 + 8 ≤ 8
    decide
  · show k * 512 + 512 ≤ 100000
    omega

theorem inb2048 (k : ℕ) (h : k < 48) : ∀ a, (![0, k * 2048] : Fin 2 → Nat) a + S8x2048.size a ≤ S8x100000.size a := by
  intro a
  fin_cases a
  · show 0 + 8 ≤ 8
    decide
  · show k * 2048 + 2048 ≤ 100000
    omega

/-- The chunks from number `k` on, `n` of them, and then `K` of the maximum and its columns. -/
def chunks {α : Type} (v : Memref sig .tc .vmem S8x100000 .f32) (j c : IVec S8x512 32)
    (K : FVec F S8x512 .f32 → IVec S8x512 32 → P F α) :
    (n k : ℕ) → (h : n + k ≤ 195) → FVec F S8x512 .f32 → IVec S8x512 32 → P F α
  | 0, _, _, b, i => K b i
  | n + 1, k, h, b, i =>
    .op (.load v (Rect.unit (s := S8x100000) ![0, k * 512] S8x512.size (inb512 k (by omega))).toLoadRect (View.loadsAt_vmem h_S8x512))
      fun x => chunks v j c K n (k + 1) (by omega) (stepMax j k b x) (stepIdx j c k b i x)

/-- The row's maximum over the lanes. -/
def foldMax (b : FVec F S8x512 .f32) : FVec F S8x1 .f32 :=
  shapeCast S8x1 (multiReduction .maximumf [1] S8 b 0xFF800000#32 reduces_S8x512_S8 (.inl rfl) rfl) shapeCasts_S8_S8x1

/-- The least column that has the maximum over the lanes. -/
def foldIdx (b : FVec F S8x512 .f32) (i : IVec S8x512 32) : IVec S8x1 32 :=
  shapeCast S8x1 (multiReductionI .minsi [1] S8 (select (cmpf .oeq b (broadcastTo S8x512 (foldMax b) broadcasts_S8x1_S8x512)) i (broadcast S8x512 2147483647#32)) 2147483647#32 reduces_S8x512_S8 rfl) shapeCasts_S8_S8x1

/-- The remainder's score. -/
def remScore (q : BitVec 32) (x : FVec F S8x160 .f32) : FVec F S8x160 .f32 :=
  score (addi (addi (addi (broadcast S8x160 (Scalar.addi q 42#32)) (muli (iota .tc S8x160 32 [0] iota_S8x160_d0_w32) (broadcast S8x160 100000#32))) (iota .tc S8x160 32 [1] iota_S8x160_d1_w32)) (broadcast S8x160 99840#32)) x

/-- The remainder's maximum. -/
def remMax (y : FVec F S8x160 .f32) : FVec F S8x1 .f32 :=
  shapeCast S8x1 (multiReduction .maximumf [1] S8 y 0xFF800000#32 reduces_S8x160_S8 (.inl rfl) rfl) shapeCasts_S8_S8x1

/-- The least column of the remainder that has its maximum. -/
def remIdx (y : FVec F S8x160 .f32) : IVec S8x1 32 :=
  shapeCast S8x1 (multiReductionI .minsi [1] S8 (select (cmpf .oeq y (broadcastTo S8x160 (remMax y) broadcasts_S8x1_S8x160)) (addi (iota .tc S8x160 32 [1] iota_S8x160_d1_w32) (broadcast S8x160 99840#32)) (broadcast S8x160 2147483647#32)) 2147483647#32 reduces_S8x160_S8 rfl) shapeCasts_S8_S8x1

/-- The winning column of each row, `y` the remainder's score. -/
def win (b : FVec F S8x512 .f32) (i : IVec S8x512 32) (y : FVec F S8x160 .f32) : IVec S8x1 32 :=
  select (cmpf .ogt (remMax y) (foldMax b)) (remIdx y) (foldIdx b i)

/-- The one-hot values of the output chunk `k`. -/
def hot (w : IVec S8x1 32) (k : ℕ) : FVec F S8x2048 .f32 :=
  sitofp .f32 (extui 32 (cmpi .eq (iota .tc S8x2048 32 [1] iota_S8x2048_d1_w32) (broadcastTo S8x2048 (subi w (broadcast S8x1 (BitVec.ofNat 32 (k * 2048)))) broadcasts_S8x1_S8x2048)) natLt_1_32)

/-- The one-hot values of the output's remainder. -/
def hotRem (w : IVec S8x1 32) : FVec F S8x1696 .f32 :=
  sitofp .f32 (extui 32 (cmpi .eq (iota .tc S8x1696 32 [1] iota_S8x1696_d1_w32) (broadcastTo S8x1696 (subi w (broadcast S8x1 98304#32)) broadcasts_S8x1_S8x1696)) natLt_1_32)

/-- The output chunks from number `k` on, `n` of them, and then `K`. -/
def stores {α : Type} (v : Memref sig .tc .vmem S8x100000 .f32) (w : IVec S8x1 32) (K : P F α) :
    (n k : ℕ) → (h : n + k ≤ 48) → P F α
  | 0, _, _ => K
  | n + 1, k, h =>
    .op (.load v (Rect.unit (s := S8x100000) ![0, k * 2048] S8x2048.size (inb2048 k (by omega))).toLoadRect (View.loadsAt_vmem h_S8x2048)) fun _ =>
    .op (.store v (Rect.unit (s := S8x100000) ![0, k * 2048] S8x2048.size (inb2048 k (by omega))) (hot w k) Finset.univ (View.stores_vmem_bits_univ h_S8x2048 rfl) (.inl rfl)) fun _ =>
    stores v w K n (k + 1) (by omega)

/-- The output's remainder, and then `K`. -/
def storeRem {α : Type} (v : Memref sig .tc .vmem S8x100000 .f32) (w : IVec S8x1 32) (K : P F α) : P F α :=
  .op (.load v (Rect.unit (s := S8x100000) ![0, 98304] S8x1696.size inb_S8x100000_S8x1696_0_98304).toLoadRect (View.loadsAt_vmem h_S8x1696)) fun _ =>
  .op (.store v (Rect.unit (s := S8x100000) ![0, 98304] S8x1696.size inb_S8x100000_S8x1696_0_98304) (hotRem w) Finset.univ (View.stores_vmem_bits_univ h_S8x1696 rfl) (.inl rfl)) fun _ => K

/-- The shifted counters of a block's first chunk, `q` the block's first counter. -/
def ctr (q : BitVec 32) : IVec S8x512 32 :=
  addi (addi (broadcast S8x512 (Scalar.addi q 42#32)) (muli (iota .tc S8x512 32 [0] iota_S8x512_d0_w32) (broadcast S8x512 100000#32))) (iota .tc S8x512 32 [1] iota_S8x512_d1_w32)

/-- The columns of the first chunk. -/
def lanes : IVec S8x512 32 := iota .tc S8x512 32 [1] iota_S8x512_d1_w32

/-- One block: read `v`, write `u`, and then `K`. -/
def block {α : Type} (q : BitVec 32) (v u : Memref sig .tc .vmem S8x100000 .f32) (K : P F α) : P F α :=
  .op (β := Vec F S8x512 .f32) (.load v (Rect.unit (s := S8x100000) ![0, 0] S8x512.size inb_S8x100000_S8x512_0_0).toLoadRect (View.loadsAt_vmem h_S8x512)) fun x =>
  chunks v (ctr q) lanes (fun b i =>
      .op (β := Vec F S8x160 .f32) (.load v (Rect.unit (s := S8x100000) ![0, 99840] S8x160.size inb_S8x100000_S8x160_0_99840).toLoadRect (View.loadsAt_vmem h_S8x160)) fun y =>
      stores u (win b i (remScore q y)) (storeRem u (win b i (remScore q y)) K) 48 0 (by omega))
    194 1 (by omega) (score (ctr q) x) lanes

end Cert.Proof.Body
-- ==== Proof.Own.lean ====
module

public import Idealize.ShloMosaic.Lib.Transfers
public import Idealize.ShloMosaic.Lib.Memref
public import Idealize.ShloMosaic.Lib.Ring
public import Idealize.ShloMosaic.Lib.Ring.WriteBehind

@[expose] public section

noncomputable section

/-! The program logic's rules for a load, a store, a transfer and its wait, over memrefs held at known values. -/

namespace Cert.Proof.Own

open Idealize.ShloMosaic Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (EC : UEmb Counters (MT nD τ sig Ix Val Name U Lvl))
variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A load through a rectangle of a memref held at `X` reads `X` there. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k fun x => X (r.emb x)) Q)
        -∗ wp frame (wpE defs 𝒱 c bd) Set.univ (.op (.load m r.toLoadRect hl) k) Q) := by
  unfold owns
  iintro ⟨%f, %hf, Hm⟩ Hk
  iapply (wp_load_rect 𝒱 c bd Set.univ (m := m) (r := r) (View.set_slice_subset m.view r)) $$ Hm
  iintro Hm
  have hr : (m.access r).read Val f = fun x => X (r.emb x) := by subst hf; rfl
  rw [hr]
  iapply Hk
  iexists f
  isplitr; · ipureintro; exact hf
  iexact Hm

open Classical in
/-- A store through a rectangle of a memref held at `X` leaves the stored value there and `X` elsewhere. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X Y : s.Idx → Val e}
    (hin : ∀ x, Y (r.emb x) = w x) (hout : ∀ y, y ∉ r.set → Y y = X y) :
    (owns c m fullShare X : sProp 𝕄)
      ⊢ iprop((owns c m fullShare Y -∗ wp frame (wpE defs 𝒱 c bd) Set.univ (k ⟨⟩) Q)
        -∗ wp frame (wpE defs 𝒱 c bd) Set.univ (.op (.store m r w Finset.univ hx hm) k) Q) := by
  unfold owns
  iintro ⟨%f, %hf, Hm⟩ Hk
  iapply (wp_store 𝒱 c bd Set.univ (m := m) (r := r) (w := w) (Mk := Finset.univ) (hx := hx) (hm := hm)
    (View.set_slice_subset m.view r)) $$ Hm
  iintro Hm
  iapply Hk
  iexists _
  isplitr
  swap; · iexact Hm
  ipureintro
  subst hf
  funext y
  by_cases hy : y ∈ r.set
  · rw [← Rect.map_emb_univ] at hy
    obtain ⟨x, -, rfl⟩ := Finset.mem_map.mp hy
    rw [hin]
    exact View.read_slice_write_emb r f w (Finset.mem_univ x)
  · rw [hout y hy]
    exact View.read_slice_write_of_not_mem r f w _ (by rwa [Rect.map_emb_univ])

/-- A transfer between two memrefs held at known values, its flight delivering both at the source's value. -/
theorem wp_dma_owns [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {X Z : s.Idx → Val e}
    (ι : Ix) (N : ℕ) (hN : dst.view.amount sm = N) (hN0 : 0 < N) :
    iprop(owns c src fullShare X ∗ owns c dst fullShare Z ∗ semVal (c, sm) 0)
      ⊢ iprop((Flight EC c sm ι N iprop(owns c dst fullShare X ∗ owns c src fullShare X)
              -∗ wp frame (wpE defs 𝒱 c bd) Set.univ (k ⟨⟩) Q)
          -∗ (wp frame (wpE defs 𝒱 c bd) Set.univ (.op (.enqueueDma src (.here dst) sm hsrc hdst hsem) k) Q : sProp 𝕄)) := by
  conv_lhs => unfold owns
  iintro ⟨⟨%fs, %hfs, Hs⟩, ⟨%fd, %hfd, Hd⟩, Hv⟩ Hk
  iapply (wp_dmaLocal EC 𝒱 c bd ι N hN hN0 subset_rfl) $$ [Hs Hd Hv]
  · isplitl [Hs]; · iexact Hs
    isplitl [Hd]; · iexact Hd
    iexact Hv
  iintro HF
  iapply Hk
  iapply (Flight_mono EC c ?_) $$ HF
  iintro ⟨Hd, Hs⟩
  unfold owns
  isplitl [Hd]
  · iexists _
    isplitr
    swap; · iexact Hd
    ipureintro
    rw [View.read_write_univ]
    exact hfs
  · iexists fs
    isplitr; · ipureintro; exact hfs
    iexact Hs

end Cert.Proof.Own
-- ==== Proof.BlockWp.lean ====
module

public import proofs.«01_k».proof.Proof.Body
public import proofs.«01_k».proof.Proof.Own
public import Idealize.ShloMosaic.Lib.ValueIdxCore

@[expose] public section

noncomputable section

/-! One block: what it leaves in the write slot, as a function of what the read slot holds. -/

namespace Cert.Proof.Body

open Cert.KernelIdeal Cert.KernelIdeal.Facts₀ Cert.KernelIdeal.Facts
open Idealize.ShloMosaic Idealize.ShloMosaic.ValueIdx Idealize.SL
open Idealize.SL.BI (sProp Storable bigSep)
open scoped Idealize.SL.BI
open Idealize.SL.BI.BIBase Idealize.SL.BI.Laws Idealize.SL.Sem Idealize.SL.ProofMode
open Idealize.SL.RA
open Cert.Proof.Own

variable {F : FTy → Type} [FloatOps F]

/-- The element of a block in row `r` and column `n`. -/
abbrev at2 (r : Fin 8) (n : ℕ) : S8x100000.Idx := ix2 r (⟨n % 100000, Nat.mod_lt _ (by norm_num)⟩ : Fin 100000)

/-- The entries of the chunk `k`. -/
def chunkOf (X : FVec F S8x100000 .f32) (k : ℕ) : FVec F S8x512 .f32 :=
  fun i => X (at2 (i 0) (k * 512 + (i 1).val))

/-- The remainder's entries. -/
def remOf (X : FVec F S8x100000 .f32) : FVec F S8x160 .f32 :=
  fun i => X (at2 (i 0) (99840 + (i 1).val))

variable [Facts]

/-- The running maximum and its columns after the chunk `k`, `q` the block's first counter. -/
def scan (q : BitVec 32) (X : FVec F S8x100000 .f32) : ℕ → FVec F S8x512 .f32 × IVec S8x512 32
  | 0 => (score (ctr q) (chunkOf X 0), lanes)
  | k + 1 => (stepMax (ctr q) (k + 1) (scan q X k).1 (chunkOf X (k + 1)),
      stepIdx (ctr q) lanes (k + 1) (scan q X k).1 (scan q X k).2 (chunkOf X (k + 1)))

/-- The winning column of each row of the block `X`. -/
def winner (q : BitVec 32) (X : FVec F S8x100000 .f32) : IVec S8x1 32 :=
  win (scan q X 194).1 (scan q X 194).2 (remScore q (remOf X))

/-- The one-hot rows of the winning columns `w`. -/
def hotRows (w : IVec S8x1 32) : FVec F S8x100000 .f32 := fun i =>
  if (i 1).val < 98304 then
    hot w ((i 1).val / 2048) (ix2 (n0 := 8) (n1 := 2048) (i 0) ⟨(i 1).val % 2048, Nat.mod_lt _ (by norm_num)⟩)
  else hotRem w (ix2 (n0 := 8) (n1 := 1696) (i 0) ⟨((i 1).val - 98304) % 1696, Nat.mod_lt _ (by norm_num)⟩)

theorem chunk_load (X : FVec F S8x100000 .f32) (k : ℕ) (h : k < 195) :
    (fun x => X ((Rect.unit (s := S8x100000) ![0, k * 512] S8x512.size (inb512 k h)).emb x)) = chunkOf X k := by
  funext x
  refine congrArg X (funext fun a => Fin.ext ?_)
  have hx : (x 1).val < 512 := (x 1).isLt
  fin_cases a
  · show 0 + 1 * (x 0).val = (x 0).val
    omega
  · show k * 512 + 1 * (x 1).val = (k * 512 + (x 1).val) % 100000
    omega

theorem rem_load (X : FVec F S8x100000 .f32) (h : ∀ a, (![0, 99840] : Fin 2 → Nat) a + S8x160.size a ≤ S8x100000.size a) :
    (fun x => X ((Rect.unit (s := S8x100000) ![0, 99840] S8x160.size h).emb x)) = remOf X := by
  funext x
  refine congrArg X (funext fun a => Fin.ext ?_)
  have hx : (x 1).val < 160 := (x 1).isLt
  fin_cases a
  · show 0 + 1 * (x 0).val = (x 0).val
    omega
  · show 99840 + 1 * (x 1).val = (99840 + (x 1).val) % 100000
    omega

theorem hot_emb (w : IVec S8x1 32) (k : ℕ) (h : k < 48) (x : S8x2048.Idx) :
    hotRows (F := F) w ((Rect.unit (s := S8x100000) ![0, k * 2048] S8x2048.size (inb2048 k h)).emb x) = hot w k x := by
  have hx : (x 1).val < 2048 := (x 1).isLt
  have e0 : ((Rect.unit (s := S8x100000) ![0, k * 2048] S8x2048.size (inb2048 k h)).emb x 0).val = (x 0).val := by
    show 0 + 1 * (x 0).val = (x 0).val
    omega
  have e1 : ((Rect.unit (s := S8x100000) ![0, k * 2048] S8x2048.size (inb2048 k h)).emb x 1).val = k * 2048 + (x 1).val := by
    show k * 2048 + 1 * (x 1).val = _
    omega
  unfold hotRows
  rw [if_pos (by omega), show ((Rect.unit (s := S8x100000) ![0, k * 2048] S8x2048.size (inb2048 k h)).emb x 1).val / 2048 = k by omega]
  refine congrArg (hot w k) (funext fun a => Fin.ext ?_)
  fin_cases a
  · exact e0
  · show ((Rect.unit (s := S8x100000) ![0, k * 2048] S8x2048.size (inb2048 k h)).emb x 1).val % 2048 = (x 1).val
    omega

theorem hotRem_emb (w : IVec S8x1 32) (h : ∀ a, (![0, 98304] : Fin 2 → Nat) a + S8x1696.size a ≤ S8x100000.size a)
    (x : S8x1696.Idx) :
    hotRows (F := F) w ((Rect.unit (s := S8x100000) ![0, 98304] S8x1696.size h).emb x) = hotRem w x := by
  have hx : (x 1).val < 1696 := (x 1).isLt
  have e0 : ((Rect.unit (s := S8x100000) ![0, 98304] S8x1696.size h).emb x 0).val = (x 0).val := by
    show 0 + 1 * (x 0).val = (x 0).val
    omega
  have e1 : ((Rect.unit (s := S8x100000) ![0, 98304] S8x1696.size h).emb x 1).val = 98304 + (x 1).val := by
    show 98304 + 1 * (x 1).val = _
    omega
  unfold hotRows
  rw [if_neg (by omega)]
  refine congrArg (hotRem w) (funext fun a => Fin.ext ?_)
  fin_cases a
  · exact e0
  · show (((Rect.unit (s := S8x100000) ![0, 98304] S8x1696.size h).emb x 1).val - 98304) % 1696 = (x 1).val
    omega

section Wp

variable {Ix : Type} [DecidableEq Ix] {Name : Type} [DecidableEq Name]
variable {U : Type} [URA U] {Lvl : Type} [Preorder Lvl]

local notation "𝕄" => MT nD τ sig Ix (Elt F) Name U Lvl

variable {defs : Defs nD τ sig (Elt F) Λ₀} (𝒱 : Variants) (c : Dev nD) (bd : Option 𝒱.V)
variable {α : Type} {Q : α → sProp (MT nD τ sig Ix (Elt F) Name U Lvl)}

/-- The chunks from number `k` on run to the scan's last state. -/
theorem wp_chunks (v : Memref sig .tc .vmem S8x100000 .f32) (q : BitVec 32) (X : FVec F S8x100000 .f32)
    (K : FVec F S8x512 .f32 → IVec S8x512 32 → P F α) :
    ∀ (n k : ℕ) (h : n + (k + 1) ≤ 195),
      (owns (c.tc : Thread nD τ) v fullShare X : sProp 𝕄)
        ⊢ iprop((owns (c.tc : Thread nD τ) v fullShare X
              -∗ wp frame (wpE defs 𝒱 (c.tc : Thread nD τ) bd) Set.univ (K (scan q X (n + k)).1 (scan q X (n + k)).2) Q)
          -∗ wp frame (wpE defs 𝒱 (c.tc : Thread nD τ) bd) Set.univ
              (chunks v (ctr q) lanes K n (k + 1) h (scan q X k).1 (scan q X k).2) Q)
  | 0, k, h => by
    unfold chunks
    rw [Nat.zero_add]
    iintro Hv Hk
    iapply Hk $$ Hv
  | n + 1, k, h => by
    unfold chunks
    iintro Hv Hk
    iapply (wp_load_owns (Val := Elt F) 𝒱 (c.tc : Thread nD τ) bd (m := v) (X := X)) $$ Hv
    iintro Hv
    rw [chunk_load X (k + 1) (by omega), show n + 1 + k = n + (k + 1) by omega]
    iapply (wp_chunks v q X K n (k + 1) (by omega)) $$ Hv
    iexact Hk

/-- The output chunks from number `k` on, the columns before them written. -/
theorem wp_stores (u : Memref sig .tc .vmem S8x100000 .f32) (w : IVec S8x1 32) (K : P F α) :
    ∀ (n k : ℕ) (h : n + k = 48) (Z : FVec F S8x100000 .f32)
      (hZ : ∀ i : S8x100000.Idx, (i 1).val < k * 2048 → Z i = hotRows w i),
      (owns (Val := Elt F) (c.tc : Thread nD τ) u fullShare Z : sProp 𝕄)
        ⊢ iprop((owns (Val := Elt F) (c.tc : Thread nD τ) u fullShare (hotRows (F := F) w)
              -∗ wp frame (wpE defs 𝒱 (c.tc : Thread nD τ) bd) Set.univ K Q)
          -∗ wp frame (wpE defs 𝒱 (c.tc : Thread nD τ) bd) Set.univ
              (stores u w (storeRem u w K) n k (le_of_eq h)) Q)
  | 0, k, h, Z, hZ => by
    unfold stores storeRem
    iintro Hu Hk
    iapply (wp_load_owns (Val := Elt F) 𝒱 (c.tc : Thread nD τ) bd (m := u) (X := Z)) $$ Hu
    iintro Hu
    iapply (wp_store_owns (Val := Elt F) 𝒱 (c.tc : Thread nD τ) bd (m := u) (X := Z) (Y := hotRows w)
      (fun x => hotRem_emb w _ x) (fun y hy => ?_)) $$ Hu
    · refine (hZ y ?_).symm
      by_contra hlt
      refine hy (Rect.mem_set_unit.mpr fun a => ?_)
      have h0 : (y 0).val < 8 := (y 0).isLt
      have h1 : (y 1).val < 100000 := (y 1).isLt
      fin_cases a
      · exact ⟨Nat.zero_le _, by show (y 0).val < 0 + 8; omega⟩
      · exact ⟨by show 98304 ≤ (y 1).val; omega, by show (y 1).val < 98304 + 1696; omega⟩
    iintro Hu
    iapply Hk $$ Hu
  | n + 1, k, h, Z, hZ => by
    unfold stores
    iintro Hu Hk
    iapply (wp_load_owns (Val := Elt F) 𝒱 (c.tc : Thread nD τ) bd (m := u) (X := Z)) $$ Hu
    iintro Hu
    iapply (wp_store_owns (Val := Elt F) 𝒱 (c.tc : Thread nD τ) bd (m := u) (X := Z)
      (Y := fun i => if (i 1).val < (k + 1) * 2048 then hotRows w i else Z i)
      (fun x => ?_) (fun y hy => ?_)) $$ Hu
    · have hx : (x 1).val < 2048 := (x 1).isLt
      have e1 : ((Rect.unit (s := S8x100000) ![0, k * 2048] S8x2048.size (inb2048 k (by omega))).emb x 1).val = k * 2048 + (x 1).val := by
        show k * 2048 + 1 * (x 1).val = _
        omega
      rw [if_pos (by omega)]
      exact hot_emb w k (by omega) x
    · by_cases hlt : (y 1).val < (k + 1) * 2048
      · rw [if_pos hlt]
        refine (hZ y ?_).symm
        by_contra hge
        refine hy (Rect.mem_set_unit.mpr fun a => ?_)
        have h0 : (y 0).val < 8 := (y 0).isLt
        fin_cases a
        · exact ⟨Nat.zero_le _, by show (y 0).val < 0 + 8; omega⟩
        · exact ⟨by show k * 2048 ≤ (y 1).val; omega, by show (y 1).val < k * 2048 + 2048; omega⟩
      · rw [if_neg hlt]
    iintro Hu
    iapply (wp_stores u w K n (k + 1) (by omega) _ (fun i hi => if_pos hi)) $$ Hu
    iexact Hk

/-- A block: the read slot keeps its contents, the write slot takes the one-hot rows of the winning columns. -/
theorem wp_block (q : BitVec 32) (v u : Memref sig .tc .vmem S8x100000 .f32) (X Z : FVec F S8x100000 .f32) (K : P F α) :
    iprop(owns (Val := Elt F) (c.tc : Thread nD τ) v fullShare X ∗ owns (Val := Elt F) (c.tc : Thread nD τ) u fullShare Z)
      ⊢ iprop(((owns (Val := Elt F) (c.tc : Thread nD τ) v fullShare X
              ∗ owns (Val := Elt F) (c.tc : Thread nD τ) u fullShare (hotRows (F := F) (winner q X)))
            -∗ wp frame (wpE defs 𝒱 (c.tc : Thread nD τ) bd) Set.univ K Q)
        -∗ (wp frame (wpE defs 𝒱 (c.tc : Thread nD τ) bd) Set.univ (block q v u K) Q : sProp 𝕄)) := by
  unfold block
  iintro ⟨Hv, Hu⟩ Hk
  iapply (wp_load_owns (Val := Elt F) 𝒱 (c.tc : Thread nD τ) bd (m := v) (X := X)) $$ Hv
  iintro Hv
  have e0 : (fun x => X ((Rect.unit (s := S8x100000) ![0, 0] S8x512.size inb_S8x100000_S8x512_0_0).emb x)) = chunkOf X 0 :=
    chunk_load X 0 (by norm_num)
  rw [e0]
  iapply (wp_chunks 𝒱 c bd v q X _ 194 0 (by norm_num)) $$ Hv
  iintro Hv
  iapply (wp_load_owns (Val := Elt F) 𝒱 (c.tc : Thread nD τ) bd (m := v) (X := X)) $$ Hv
  iintro Hv
  rw [rem_load X]
  iapply (wp_stores 𝒱 c bd u (winner q X) K 48 0 (by norm_num) Z (fun i hi => by omega)) $$ Hu
  iintro Hu
  iapply Hk
  isplitl [Hv]; · iexact Hv
  iexact Hu

end Wp

end Cert.Proof.Body
-- ==== Proof.Trip.lean ====
module

public import proofs.«01_k».proof.Proof.Body

@[expose] public section

noncomputable section

namespace Cert.Proof.Body

open Cert.KernelIdeal Cert.KernelIdeal.Facts₀ Cert.KernelIdeal.Facts
open Idealize.ShloMosaic Idealize.SL.Sem

variable {F : FTy → Type} [FloatOps F] [Facts]

/-- Start the copy of the block after the next into its slot of the read ring, if there is one. -/
def copyIn (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (k0_t1 : Fin k0_t1_loop.trips) (arg3 arg4 arg5 arg6 arg7 : BitVec 32) (k0_hw1 : k0_chk1 k0_t1 arg3 arg4 arg5 arg6 arg7) :
    P F PUnit := do
  if k0_h2 : k0_cond2 k0_t1 arg7 = 1#1 then do
    let v38649 : DmaSems sig S1 := v0.slice (Rect.unit (s := S3) (k0_off6 arg3) S1.size (k0_off6_inb k0_t1 arg3 arg4 arg5 arg6 arg7 k0_hw1 k0_h2))
    let v38650 : DmaSems sig S_ := v38649.squeeze S_ squeezes_S1_S_
    let v38651 : Memref sig .tc .vmem S1x8x100000 .f32 := alloca.slice (Rect.unit (s := S3x8x100000) (k0_off7 arg3) S1x8x100000.size (k0_off7_inb k0_t1 arg3 arg4 arg5 arg6 arg7 k0_hw1 k0_h2)) (fun _ => rfl)
    let v38652 : Memref sig .tc .vmem S8x100000 .f32 := v38651.squeeze S8x100000 squeezes_S1x8x100000_S8x100000
    let v38653 : Memref sig .tc .hbm S8x100000 .f32 := arg0.slice (Rect.unit (s := S128x100000) (k0_off8 arg7) S8x100000.size (k0_off8_inb k0_t1 arg3 arg4 arg5 arg6 arg7 k0_hw1 k0_h2)) (fun _ => rfl)
    Prog.lift (.enqueueDma v38653 (.here v38652) (.dma v38650.sem) (View.wordExact_bits rfl) ((View.wordExact_bits rfl).reshape _ _) ⟨Or.inl rfl, trivial⟩)
    pure ⟨⟩
  else do
    pure ⟨⟩

/-- Wait for the copy of this block into its slot of the read ring. -/
def waitIn (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (k0_t1 : Fin k0_t1_loop.trips) (arg3 arg4 arg5 arg6 arg7 : BitVec 32) (k0_hw1 : k0_chk1 k0_t1 arg3 arg4 arg5 arg6 arg7) :
    P F PUnit := do
  if k0_h3 : k0_cond3 k0_t1 arg7 = 1#1 then do
    let v38649 : DmaSems sig S1 := v0.slice (Rect.unit (s := S3) (k0_off9 arg4) S1.size (k0_off9_inb k0_t1 arg3 arg4 arg5 arg6 arg7 k0_hw1 k0_h3))
    let v38650 : DmaSems sig S_ := v38649.squeeze S_ squeezes_S1_S_
    let v38651 : Memref sig .tc .vmem S1x8x100000 .f32 := alloca.slice (Rect.unit (s := S3x8x100000) (k0_off10 arg4) S1x8x100000.size (k0_off10_inb k0_t1 arg3 arg4 arg5 arg6 arg7 k0_hw1 k0_h3)) (fun _ => rfl)
    let v38652 : Memref sig .tc .vmem S8x100000 .f32 := v38651.squeeze S8x100000 squeezes_S1x8x100000_S8x100000
    let v38653 : Memref sig .tc .hbm S8x100000 .f32 := arg0.slice (Rect.unit (s := S128x100000) (k0_off11 arg7) S8x100000.size (k0_off11_inb k0_t1 arg3 arg4 arg5 arg6 arg7 k0_hw1 k0_h3)) (fun _ => rfl)
    Prog.lift (.waitDma2 v38650.sem v38653 v38652 (View.wordExact_bits rfl) ((View.wordExact_bits rfl).reshape _ _))
    pure ⟨⟩
  else do
    pure ⟨⟩

/-- Start the copy of this block from its slot of the write ring to the output. -/
def copyOut (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (k0_t1 : Fin k0_t1_loop.trips) (arg3 arg4 arg5 arg6 arg7 : BitVec 32) (k0_hw1 : k0_chk1 k0_t1 arg3 arg4 arg5 arg6 arg7) :
    P F PUnit := do
  if k0_h6 : k0_cond6 k0_t1 arg7 = 1#1 then do
    let v38649 : DmaSems sig S1 := v1.slice (Rect.unit (s := S2) (k0_off14 arg5) S1.size (k0_off14_inb k0_t1 arg3 arg4 arg5 arg6 arg7 k0_hw1 k0_h6))
    let v38650 : DmaSems sig S_ := v38649.squeeze S_ squeezes_S1_S_
    let v38651 : Memref sig .tc .hbm S8x100000 .f32 := arg1.slice (Rect.unit (s := S128x100000) (k0_off15 arg7) S8x100000.size (k0_off15_inb k0_t1 arg3 arg4 arg5 arg6 arg7 k0_hw1 k0_h6)) (fun _ => rfl)
    let v38652 : Memref sig .tc .vmem S1x8x100000 .f32 := alloca_0.slice (Rect.unit (s := S2x8x100000) (k0_off16 arg5) S1x8x100000.size (k0_off16_inb k0_t1 arg3 arg4 arg5 arg6 arg7 k0_hw1 k0_h6)) (fun _ => rfl)
    let v38653 : Memref sig .tc .vmem S8x100000 .f32 := v38652.squeeze S8x100000 squeezes_S1x8x100000_S8x100000
    Prog.lift (.enqueueDma v38653 (.here v38651) (.dma v38650.sem) ((View.wordExact_bits rfl).reshape _ _) (View.wordExact_bits rfl) ⟨Or.inl rfl, trivial⟩)
    pure ⟨⟩
  else do
    pure ⟨⟩

/-- Wait for the copy of the block before from the write ring. -/
def waitOut (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (k0_t1 : Fin k0_t1_loop.trips) (arg3 arg4 arg5 arg6 arg7 : BitVec 32) (k0_hw1 : k0_chk1 k0_t1 arg3 arg4 arg5 arg6 arg7) :
    P F PUnit := do
  if k0_h8 : k0_cond8 k0_t1 arg7 = 1#1 then do
    let v38649 : DmaSems sig S1 := v1.slice (Rect.unit (s := S2) (k0_off17 arg6) S1.size (k0_off17_inb k0_t1 arg3 arg4 arg5 arg6 arg7 k0_hw1 k0_h8))
    let v38650 : DmaSems sig S_ := v38649.squeeze S_ squeezes_S1_S_
    let v38651 : Memref sig .tc .hbm S8x100000 .f32 := arg1.slice (Rect.unit (s := S128x100000) (k0_off18 arg7) S8x100000.size (k0_off18_inb k0_t1 arg3 arg4 arg5 arg6 arg7 k0_hw1 k0_h8)) (fun _ => rfl)
    let v38652 : Memref sig .tc .vmem S1x8x100000 .f32 := alloca_0.slice (Rect.unit (s := S2x8x100000) (k0_off19 arg6) S1x8x100000.size (k0_off19_inb k0_t1 arg3 arg4 arg5 arg6 arg7 k0_hw1 k0_h8)) (fun _ => rfl)
    let v38653 : Memref sig .tc .vmem S8x100000 .f32 := v38652.squeeze S8x100000 squeezes_S1x8x100000_S8x100000
    Prog.lift (.waitDma2 v38650.sem v38653 v38651 ((View.wordExact_bits rfl).reshape _ _) (View.wordExact_bits rfl))
    pure ⟨⟩
  else do
    pure ⟨⟩

/-- One trip of the pipeline's loop. -/
def trip (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (c0_i32_33 : BitVec 32) (c1_i32_35 : BitVec 32) (k0_t1 : Fin k0_t1_loop.trips) (arg3 arg4 arg5 arg6 arg7 : BitVec 32) :
    P F (BitVec 32 × BitVec 32 × BitVec 32 × BitVec 32 × BitVec 32) := do
  have k0_hw3 : k0_chk3 arg5 := (← Prog.lift (TpuEff.assume (k0_chk3 arg5) (k0_chk3.dec arg5))).down
  have k0_hw2 : k0_chk2 arg4 := (← Prog.lift (TpuEff.assume (k0_chk2 arg4) (k0_chk2.dec arg4))).down
  have k0_hw1 : k0_chk1 k0_t1 arg3 arg4 arg5 arg6 arg7 := (← Prog.lift (TpuEff.assume (k0_chk1 k0_t1 arg3 arg4 arg5 arg6 arg7) (k0_chk1.dec k0_t1 arg3 arg4 arg5 arg6 arg7))).down
  let arg2 : BitVec 32 := Scf.iv c0_i32_33 c1_i32_35 k0_t1
  let c0_i32_65 : BitVec 32 := 0#32
  let v68 : BitVec 1 := Scalar.cmpi .eq arg2 c0_i32_65
  let c15_i32_66 : BitVec 32 := 15#32
  let v69 : BitVec 1 := Scalar.cmpi .eq arg2 c15_i32_66
  let c0_i32_67 : BitVec 32 := 0#32
  let v70 : BitVec 32 := Scalar.addi arg7 c0_i32_67
  let c1_i32_68 : BitVec 32 := 1#32
  let v71 : BitVec 32 := Scalar.subi arg7 c1_i32_68
  let true_69 : BitVec 1 := 1#1
  let v72 : BitVec 32 := Scalar.select true_69 v71 arg7
  let c_m1_i32_70 : BitVec 32 := 4294967295#32
  let v73 : BitVec 1 := Scalar.cmpi .eq v72 c_m1_i32_70
  let c15_i32_71 : BitVec 32 := 15#32
  let v74 : BitVec 32 := Scalar.select v73 c15_i32_71 v72
  let c0_i32_72 : BitVec 32 := 0#32
  let v75 : BitVec 32 := Scalar.addi v74 c0_i32_72
  let c1_i32_73 : BitVec 32 := 1#32
  let v76 : BitVec 32 := Scalar.addi arg7 c1_i32_73
  let true_74 : BitVec 1 := 1#1
  let v77 : BitVec 32 := Scalar.select true_74 v76 arg7
  let c16_i32_75 : BitVec 32 := 16#32
  let v78 : BitVec 1 := Scalar.cmpi .eq v77 c16_i32_75
  let c0_i32_76 : BitVec 32 := 0#32
  let v79 : BitVec 32 := Scalar.select v78 c0_i32_76 v77
  let c0_i32_77 : BitVec 32 := 0#32
  let v80 : BitVec 32 := Scalar.addi v79 c0_i32_77
  let c1_i32_78 : BitVec 32 := 1#32
  let v81 : BitVec 32 := Scalar.addi v79 c1_i32_78
  let true_79 : BitVec 1 := 1#1
  let v82 : BitVec 32 := Scalar.select true_79 v81 v79
  let c16_i32_80 : BitVec 32 := 16#32
  let v83 : BitVec 1 := Scalar.cmpi .eq v82 c16_i32_80
  let c0_i32_81 : BitVec 32 := 0#32
  let v84 : BitVec 32 := Scalar.select v83 c0_i32_81 v82
  let c0_i32_82 : BitVec 32 := 0#32
  let v85 : BitVec 32 := Scalar.addi v84 c0_i32_82
  let c1_i32_83 : BitVec 32 := 1#32
  let v86 : BitVec 32 := Scalar.addi v84 c1_i32_83
  let true_84 : BitVec 1 := 1#1
  let v87 : BitVec 32 := Scalar.select true_84 v86 v84
  let c16_i32_85 : BitVec 32 := 16#32
  let v88 : BitVec 1 := Scalar.cmpi .eq v87 c16_i32_85
  let c0_i32_86 : BitVec 32 := 0#32
  let v89 : BitVec 32 := Scalar.select v88 c0_i32_86 v87
  let c0_i32_87 : BitVec 32 := 0#32
  let v90 : BitVec 32 := Scalar.addi v89 c0_i32_87
  let v91 : BitVec 1 := Scalar.cmpi .ne v80 v85
  let c14_i32 : BitVec 32 := 14#32
  let v92 : BitVec 1 := Scalar.cmpi .sge arg2 c14_i32
  let true_88 : BitVec 1 := 1#1
  let v93 : BitVec 1 := Scalar.xori v92 true_88
  let v94 : BitVec 1 := Scalar.andi v91 v93
  let true_89 : BitVec 1 := 1#1
  let v95 : BitVec 1 := Scalar.andi v94 true_89
  let v96 : BitVec 32 := Scalar.extui v95
  let c0_i32_90 : BitVec 32 := 0#32
  copyIn arg0 harg0 arg1 harg1 alloca halloca v0 alloca_0 halloca_0 v1 k0_t1 arg3 arg4 arg5 arg6 arg7 k0_hw1
  let true_91 : BitVec 1 := 1#1
  let v98 : BitVec 1 := Scalar.andi v94 true_91
  let c1_i32_92 : BitVec 32 := 1#32
  let v99 : BitVec 32 := Scalar.addi arg3 c1_i32_92
  let v100 : BitVec 32 := Scalar.select v98 v99 arg3
  let v101 : BitVec 1 := Scalar.cmpi .ne v70 v80
  let c15_i32_93 : BitVec 32 := 15#32
  let v102 : BitVec 1 := Scalar.cmpi .sge arg2 c15_i32_93
  let true_94 : BitVec 1 := 1#1
  let v103 : BitVec 1 := Scalar.xori v102 true_94
  let v104 : BitVec 1 := Scalar.andi v101 v103
  let v105 : BitVec 1 := Scalar.cmpi .ne v70 v75
  let v106 : BitVec 1 := Scalar.ori v105 v68
  let c0_i32_95 : BitVec 32 := 0#32
  let v107 : BitVec 1 := Scalar.cmpi .sge arg2 c0_i32_95
  let v108 : BitVec 1 := Scalar.andi v106 v107
  let v109 : BitVec 32 := Scalar.extui v108
  let c0_i32_96 : BitVec 32 := 0#32
  let v110 : BitVec 1 := Scalar.cmpi .ne v109 c0_i32_96
  waitIn arg0 harg0 arg1 harg1 alloca halloca v0 alloca_0 halloca_0 v1 k0_t1 arg3 arg4 arg5 arg6 arg7 k0_hw1
  let ⟨v38624, v38638, v38642, c1_i32_12895⟩ : Σ' (v38624 : BitVec 32) (v38638 : BitVec 32) (v38642 : BitVec 32), BitVec 32 ← (do
    let ⟨v38619, v38620, c0_i32_12884⟩ : Σ' (v38619 : BitVec 1) (v38620 : BitVec 32), BitVec 32 ← (do
      block (Scalar.muli v70 800000#32)
        ((alloca.slice (Rect.unit (s := S3x8x100000) (k0_off12 arg4) S1x8x100000.size (k0_off12_inb arg4 k0_hw2)) (fun _ => rfl)).squeeze S8x100000 squeezes_S1x8x100000_S8x100000)
        ((alloca_0.slice (Rect.unit (s := S2x8x100000) (k0_off13 arg5) S1x8x100000.size (k0_off13_inb arg5 k0_hw3)) (fun _ => rfl)).squeeze S8x100000 squeezes_S1x8x100000_S8x100000) (pure ⟨⟩)
      let v38613 : BitVec 1 := Scalar.cmpi .ne v70 v80
      let v38614 : BitVec 1 := Scalar.ori v38613 v69
      let v38615 : BitVec 32 := Scalar.extui v38614
      let c0_i32_12883 : BitVec 32 := 0#32
      let v38616 : BitVec 1 := Scalar.cmpi .ne v38615 c0_i32_12883
      if v38616 = 1#1 then do
        pure ⟨⟩
      else do
        pure ⟨⟩
      let v_false : BitVec 1 := 0#1
      let v38617 : BitVec 1 := Scalar.andi v38614 v_false
      let v38618 : BitVec 1 := Scalar.cmpi .ne v70 v80
      let v38619 : BitVec 1 := Scalar.ori v38618 v69
      let v38620 : BitVec 32 := Scalar.extui v38619
      let c0_i32_12884 : BitVec 32 := 0#32
      pure ⟨v38619, v38620, c0_i32_12884⟩
      )
    let v38621 : BitVec 1 := Scalar.cmpi .ne v38620 c0_i32_12884
    if k0_h6 : k0_cond6 k0_t1 arg7 = 1#1 then do
      let c2_i32_12899 : BitVec 32 := 2#32
      let v38647 : BitVec 32 := Scalar.remui arg5 c2_i32_12899
      let c8_i32_12900 : BitVec 32 := 8#32
      let v38648 : BitVec 32 := Scalar.muli c8_i32_12900 v70
      let v38649 : DmaSems sig S1 := v1.slice (Rect.unit (s := S2) (k0_off14 arg5) S1.size (k0_off14_inb k0_t1 arg3 arg4 arg5 arg6 arg7 k0_hw1 k0_h6))
      let v38650 : DmaSems sig S_ := v38649.squeeze S_ squeezes_S1_S_
      let c0_i32_12901 : BitVec 32 := 0#32
      let v38651 : Memref sig .tc .hbm S8x100000 .f32 := arg1.slice (Rect.unit (s := S128x100000) (k0_off15 arg7) S8x100000.size (k0_off15_inb k0_t1 arg3 arg4 arg5 arg6 arg7 k0_hw1 k0_h6)) (fun _ => rfl)
      let c0_i32_12902 : BitVec 32 := 0#32
      let c0_i32_12903 : BitVec 32 := 0#32
      let v38652 : Memref sig .tc .vmem S1x8x100000 .f32 := alloca_0.slice (Rect.unit (s := S2x8x100000) (k0_off16 arg5) S1x8x100000.size (k0_off16_inb k0_t1 arg3 arg4 arg5 arg6 arg7 k0_hw1 k0_h6)) (fun _ => rfl)
      let v38653 : Memref sig .tc .vmem S8x100000 .f32 := v38652.squeeze S8x100000 squeezes_S1x8x100000_S8x100000
      Prog.lift (.enqueueDma v38653 (.here v38651) (.dma v38650.sem) ((View.wordExact_bits rfl).reshape _ _) (View.wordExact_bits rfl) ⟨Or.inl rfl, trivial⟩)
      pure ⟨⟩
    else do
      pure ⟨⟩
    let true_12885 : BitVec 1 := 1#1
    let v38622 : BitVec 1 := Scalar.andi v38619 true_12885
    let c1_i32_12886 : BitVec 32 := 1#32
    let v38623 : BitVec 32 := Scalar.addi arg5 c1_i32_12886
    let v38624 : BitVec 32 := Scalar.select v38622 v38623 arg5
    let v38625 : BitVec 1 := Scalar.cmpi .ne v70 v75
    let true_12887 : BitVec 1 := 1#1
    let v38626 : BitVec 1 := Scalar.xori v68 true_12887
    let v38627 : BitVec 1 := Scalar.andi v38625 v38626
    let v38628 : BitVec 32 := Scalar.extui v38627
    let c0_i32_12888 : BitVec 32 := 0#32
    let v38629 : BitVec 1 := Scalar.cmpi .ne v38628 c0_i32_12888
    if v38629 = 1#1 then do
      pure ⟨⟩
    else do
      pure ⟨⟩
    let false_12889 : BitVec 1 := 0#1
    let v38630 : BitVec 1 := Scalar.andi v38627 false_12889
    let v38631 : BitVec 1 := Scalar.cmpi .ne v70 v75
    let true_12890 : BitVec 1 := 1#1
    let v38632 : BitVec 1 := Scalar.xori v68 true_12890
    let v38633 : BitVec 1 := Scalar.andi v38631 v38632
    let v38634 : BitVec 32 := Scalar.extui v38633
    let c0_i32_12891 : BitVec 32 := 0#32
    let v38635 : BitVec 1 := Scalar.cmpi .ne v38634 c0_i32_12891
    if k0_h8 : k0_cond8 k0_t1 arg7 = 1#1 then do
      let c2_i32_12899 : BitVec 32 := 2#32
      let v38647 : BitVec 32 := Scalar.remui arg6 c2_i32_12899
      let c8_i32_12900 : BitVec 32 := 8#32
      let v38648 : BitVec 32 := Scalar.muli c8_i32_12900 v75
      let v38649 : DmaSems sig S1 := v1.slice (Rect.unit (s := S2) (k0_off17 arg6) S1.size (k0_off17_inb k0_t1 arg3 arg4 arg5 arg6 arg7 k0_hw1 k0_h8))
      let v38650 : DmaSems sig S_ := v38649.squeeze S_ squeezes_S1_S_
      let c0_i32_12901 : BitVec 32 := 0#32
      let v38651 : Memref sig .tc .hbm S8x100000 .f32 := arg1.slice (Rect.unit (s := S128x100000) (k0_off18 arg7) S8x100000.size (k0_off18_inb k0_t1 arg3 arg4 arg5 arg6 arg7 k0_hw1 k0_h8)) (fun _ => rfl)
      let c0_i32_12902 : BitVec 32 := 0#32
      let c0_i32_12903 : BitVec 32 := 0#32
      let v38652 : Memref sig .tc .vmem S1x8x100000 .f32 := alloca_0.slice (Rect.unit (s := S2x8x100000) (k0_off19 arg6) S1x8x100000.size (k0_off19_inb k0_t1 arg3 arg4 arg5 arg6 arg7 k0_hw1 k0_h8)) (fun _ => rfl)
      let v38653 : Memref sig .tc .vmem S8x100000 .f32 := v38652.squeeze S8x100000 squeezes_S1x8x100000_S8x100000
      Prog.lift (.waitDma2 v38650.sem v38653 v38651 ((View.wordExact_bits rfl).reshape _ _) (View.wordExact_bits rfl))
      pure ⟨⟩
    else do
      pure ⟨⟩
    let true_12892 : BitVec 1 := 1#1
    let v38636 : BitVec 1 := Scalar.andi v38633 true_12892
    let c1_i32_12893 : BitVec 32 := 1#32
    let v38637 : BitVec 32 := Scalar.addi arg6 c1_i32_12893
    let v38638 : BitVec 32 := Scalar.select v38636 v38637 arg6
    let v38639 : BitVec 1 := Scalar.cmpi .ne v70 v80
    let v38640 : BitVec 1 := Scalar.ori v38639 v69
    let c1_i32_12894 : BitVec 32 := 1#32
    let v38641 : BitVec 32 := Scalar.addi arg4 c1_i32_12894
    let v38642 : BitVec 32 := Scalar.select v38640 v38641 arg4
    let c1_i32_12895 : BitVec 32 := 1#32
    pure ⟨v38624, v38638, v38642, c1_i32_12895⟩
    )
  let v38643 : BitVec 32 := Scalar.addi arg7 c1_i32_12895
  let true_12896 : BitVec 1 := 1#1
  let v38644 : BitVec 32 := Scalar.select true_12896 v38643 arg7
  let c16_i32_12897 : BitVec 32 := 16#32
  let v38645 : BitVec 1 := Scalar.cmpi .eq v38644 c16_i32_12897
  let c0_i32_12898 : BitVec 32 := 0#32
  let v38646 : BitVec 32 := Scalar.select v38645 c0_i32_12898 v38644
  pure (v100, v38642, v38624, v38638, v38646)

/-- The loop with its priming. -/
def outer (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (v9 : BitVec 32) (v26 : BitVec 32) (v28 : BitVec 1) :
    Prog (TpuEff nD τ sig (Elt F) Λ₀ .tc) (Σ' (v35_3 : BitVec 32) (v35_4 : BitVec 32) (k0_hw5 : k0_chk5 v35_4) (k0_hw4 : k0_chk4 v35_3) (v40 : BitVec 32) (v54 : BitVec 32), BitVec 32) := do
  let true_26 : BitVec 1 := 1#1
  let v29 : BitVec 1 := Scalar.andi v28 true_26
  let v30 : BitVec 32 := Scalar.extui v29
  let c0_i32_27 : BitVec 32 := 0#32
  let v31 : BitVec 1 := Scalar.cmpi .ne v30 c0_i32_27
  if k0_h1 : k0_cond1 = 1#1 then do
    let c3_i32_65 : BitVec 32 := 3#32
    let v68 : BitVec 32 := Scalar.remui v26 c3_i32_65
    let c8_i32_66 : BitVec 32 := 8#32
    let v69 : BitVec 32 := Scalar.muli c8_i32_66 v9
    let v70 : DmaSems sig S1 := v0.slice (Rect.unit (s := S3) k0_off3 S1.size (k0_off3_inb k0_h1))
    let v71 : DmaSems sig S_ := v70.squeeze S_ squeezes_S1_S_
    let c0_i32_67 : BitVec 32 := 0#32
    let c0_i32_68 : BitVec 32 := 0#32
    let v72 : Memref sig .tc .vmem S1x8x100000 .f32 := alloca.slice (Rect.unit (s := S3x8x100000) k0_off4 S1x8x100000.size (k0_off4_inb k0_h1)) (fun _ => rfl)
    let v73 : Memref sig .tc .vmem S8x100000 .f32 := v72.squeeze S8x100000 squeezes_S1x8x100000_S8x100000
    let c0_i32_69 : BitVec 32 := 0#32
    let v74 : Memref sig .tc .hbm S8x100000 .f32 := arg0.slice (Rect.unit (s := S128x100000) k0_off5 S8x100000.size (k0_off5_inb k0_h1)) (fun _ => rfl)
    Prog.lift (.enqueueDma v74 (.here v73) (.dma v71.sem) (View.wordExact_bits rfl) ((View.wordExact_bits rfl).reshape _ _) ⟨Or.inl rfl, trivial⟩)
    pure ⟨⟩
  else do
    pure ⟨⟩
  let c1_i32_28 : BitVec 32 := 1#32
  let v32 : BitVec 32 := Scalar.addi v26 c1_i32_28
  let v33 : BitVec 32 := Scalar.select v28 v32 v26
  let c0_i32_29 : BitVec 32 := 0#32
  let c0_i32_30 : BitVec 32 := 0#32
  let c0_i32_31 : BitVec 32 := 0#32
  let c0_i32_32 : BitVec 32 := 0#32
  let c0_i32_33 : BitVec 32 := 0#32
  let c16_i32_34 : BitVec 32 := 16#32
  let v34 : BitVec 32 := Scalar.addi c0_i32_33 c16_i32_34
  let c1_i32_35 : BitVec 32 := 1#32
  let (v35_0, v35_1, v35_2, v35_3, v35_4) ← Scf.Loop.for k0_t1_loop k0_t1_ok (v33, c0_i32_29, c0_i32_30, c0_i32_31, c0_i32_32) fun k0_t1 (arg3, arg4, arg5, arg6, arg7) => do
    trip arg0 harg0 arg1 harg1 alloca halloca v0 alloca_0 halloca_0 v1 c0_i32_33 c1_i32_35 k0_t1 arg3 arg4 arg5 arg6 arg7
  have k0_hw5 : k0_chk5 v35_4 := (← Prog.lift (TpuEff.assume (k0_chk5 v35_4) (k0_chk5.dec v35_4))).down
  have k0_hw4 : k0_chk4 v35_3 := (← Prog.lift (TpuEff.assume (k0_chk4 v35_3) (k0_chk4.dec v35_3))).down
  let c16_i32_36 : BitVec 32 := 16#32
  let c1_i32_37 : BitVec 32 := 1#32
  let v36 : BitVec 32 := Scalar.subi v35_4 c1_i32_37
  let true_38 : BitVec 1 := 1#1
  let v37 : BitVec 32 := Scalar.select true_38 v36 v35_4
  let c_m1_i32_39 : BitVec 32 := 4294967295#32
  let v38 : BitVec 1 := Scalar.cmpi .eq v37 c_m1_i32_39
  let c15_i32_40 : BitVec 32 := 15#32
  let v39 : BitVec 32 := Scalar.select v38 c15_i32_40 v37
  let c0_i32_41 : BitVec 32 := 0#32
  let v40 : BitVec 32 := Scalar.addi v39 c0_i32_41
  let c1_i32_42 : BitVec 32 := 1#32
  let v41 : BitVec 32 := Scalar.subi v39 c1_i32_42
  let true_43 : BitVec 1 := 1#1
  let v42 : BitVec 32 := Scalar.select true_43 v41 v39
  let c_m1_i32_44 : BitVec 32 := 4294967295#32
  let v43 : BitVec 1 := Scalar.cmpi .eq v42 c_m1_i32_44
  let c15_i32_45 : BitVec 32 := 15#32
  let v44 : BitVec 32 := Scalar.select v43 c15_i32_45 v42
  let c0_i32_46 : BitVec 32 := 0#32
  let v45 : BitVec 32 := Scalar.addi v44 c0_i32_46
  let c1_i32_47 : BitVec 32 := 1#32
  let v46 : BitVec 32 := Scalar.addi v39 c1_i32_47
  let true_48 : BitVec 1 := 1#1
  let v47 : BitVec 32 := Scalar.select true_48 v46 v39
  let c16_i32_49 : BitVec 32 := 16#32
  let v48 : BitVec 1 := Scalar.cmpi .eq v47 c16_i32_49
  let c0_i32_50 : BitVec 32 := 0#32
  let v49 : BitVec 32 := Scalar.select v48 c0_i32_50 v47
  let c0_i32_51 : BitVec 32 := 0#32
  let v50 : BitVec 32 := Scalar.addi v49 c0_i32_51
  let c1_i32_52 : BitVec 32 := 1#32
  let v51 : BitVec 32 := Scalar.addi v49 c1_i32_52
  let true_53 : BitVec 1 := 1#1
  let v52 : BitVec 32 := Scalar.select true_53 v51 v49
  let c16_i32_54 : BitVec 32 := 16#32
  let v53 : BitVec 1 := Scalar.cmpi .eq v52 c16_i32_54
  let c0_i32_55 : BitVec 32 := 0#32
  let v54 : BitVec 32 := Scalar.select v53 c0_i32_55 v52
  let c0_i32_56 : BitVec 32 := 0#32
  pure ⟨v35_3, v35_4, k0_hw5, k0_hw4, v40, v54, c0_i32_56⟩

end Cert.Proof.Body
-- ==== Proof.Raw.lean ====
module

public import proofs.«01_k».proof.Proof.Trip

@[expose] public section

noncomputable section

namespace Cert.Proof.Body

open Cert.KernelIdeal Cert.KernelIdeal.Facts₀ Cert.KernelIdeal.Facts
open Idealize.ShloMosaic Idealize.SL.Sem

variable {F : FTy → Type} [FloatOps F] [Facts]

def rawTrip (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (c0_i32_33 : BitVec 32) (c1_i32_35 : BitVec 32) (k0_t1 : Fin k0_t1_loop.trips) (arg3 arg4 arg5 arg6 arg7 : BitVec 32) :
    P F (BitVec 32 × BitVec 32 × BitVec 32 × BitVec 32 × BitVec 32) := do
  let ⟨k0_hw3, k0_hw2, k0_hw1, v68, v69, v70, v75, v80, v100, v119, v127, v128, v2642, v2643, v2646, v2729, v2730, v2732⟩ : Σ' (k0_hw3 : k0_chk3 arg5) (k0_hw2 : k0_chk2 arg4) (k0_hw1 : k0_chk1 k0_t1 arg3 arg4 arg5 arg6 arg7) (v68 : BitVec 1) (v69 : BitVec 1) (v70 : BitVec 32) (v75 : BitVec 32) (v80 : BitVec 32) (v100 : BitVec 32) (v119 : BitVec 32) (v127 : IVec S8x512 32) (v128 : IVec S8x512 32) (v2642 : IVec S8x512 32) (v2643 : FVec F S8x512 .f32) (v2646 : Vec F S8x512 .f32) (v2729 : IVec S8x512 32) (v2730 : IVec S8x512 32), IVec S8x512 32 ← k0_part865 arg0 harg0 arg1 harg1 alloca halloca v0 alloca_0 halloca_0 v1 c0_i32_33 c1_i32_35 k0_t1 arg3 arg4 arg5 arg6 arg7
  let ⟨v5358, v5359, v5362, v5412, v5418⟩ : Σ' (v5358 : IVec S8x512 32) (v5359 : FVec F S8x512 .f32) (v5362 : Vec F S8x512 .f32) (v5412 : IVec S8x512 32), IVec S8x512 32 ← k0_part866 arg0 harg0 arg1 harg1 alloca halloca v0 alloca_0 halloca_0 v1 arg4 k0_hw2 v127 v128 v2642 v2643 v2646 v2729 v2730 v2732
  let ⟨v8074, v8075, v8078, v8100, v8101, v8103, c26_i32_2721⟩ : Σ' (v8074 : IVec S8x512 32) (v8075 : FVec F S8x512 .f32) (v8078 : Vec F S8x512 .f32) (v8100 : IVec S8x512 32) (v8101 : IVec S8x512 32) (v8103 : IVec S8x512 32), BitVec 32 ← k0_part867 arg0 harg0 arg1 harg1 alloca halloca v0 alloca_0 halloca_0 v1 arg4 k0_hw2 v127 v128 v5358 v5359 v5362 v5412 v5418
  let ⟨v10790, v10791⟩ : Σ' (v10790 : IVec S8x512 32), FVec F S8x512 .f32 ← k0_part868 arg0 harg0 arg1 harg1 alloca halloca v0 alloca_0 halloca_0 v1 arg4 k0_hw2 v127 v128 v8074 v8075 v8078 v8100 v8101 v8103 c26_i32_2721
  let ⟨v13312, v13313, v13316, v13474, v13475, v13477, c26_i32_4493⟩ : Σ' (v13312 : IVec S8x512 32) (v13313 : FVec F S8x512 .f32) (v13316 : Vec F S8x512 .f32) (v13474 : IVec S8x512 32) (v13475 : IVec S8x512 32) (v13477 : IVec S8x512 32), BitVec 32 ← k0_part869 arg0 harg0 arg1 harg1 alloca halloca v0 alloca_0 halloca_0 v1 arg4 k0_hw2 v127 v128 v10790 v10791
  let ⟨v16028, v16029, v16032, v16157, v16163, c42_i32_5379⟩ : Σ' (v16028 : IVec S8x512 32) (v16029 : FVec F S8x512 .f32) (v16032 : Vec F S8x512 .f32) (v16157 : IVec S8x512 32) (v16163 : IVec S8x512 32), BitVec 32 ← k0_part870 arg0 harg0 arg1 harg1 alloca halloca v0 alloca_0 halloca_0 v1 arg4 k0_hw2 v127 v128 v13312 v13313 v13316 v13474 v13475 v13477 c26_i32_4493
  let ⟨v18744, v18745, v18748, v18847, v18849⟩ : Σ' (v18744 : IVec S8x512 32) (v18745 : FVec F S8x512 .f32) (v18748 : Vec F S8x512 .f32) (v18847 : IVec S8x512 32), IVec S8x512 32 ← k0_part871 arg0 harg0 arg1 harg1 alloca halloca v0 alloca_0 halloca_0 v1 arg4 k0_hw2 v127 v128 v16028 v16029 v16032 v16157 v16163 c42_i32_5379
  let ⟨v21460, v21461, v21464, v21533, v21534, c13_i32_7152⟩ : Σ' (v21460 : IVec S8x512 32) (v21461 : FVec F S8x512 .f32) (v21464 : Vec F S8x512 .f32) (v21533 : IVec S8x512 32) (v21534 : IVec S8x512 32), BitVec 32 ← k0_part872 arg0 harg0 arg1 harg1 alloca halloca v0 alloca_0 halloca_0 v1 arg4 k0_hw2 v127 v128 v18744 v18745 v18748 v18847 v18849
  let ⟨v24176, v24177, v24180, v24216, v24218, v24220⟩ : Σ' (v24176 : IVec S8x512 32) (v24177 : FVec F S8x512 .f32) (v24180 : Vec F S8x512 .f32) (v24216 : IVec S8x512 32) (v24218 : IVec S8x512 32), IVec S8x512 32 ← k0_part873 arg0 harg0 arg1 harg1 alloca halloca v0 alloca_0 halloca_0 v1 arg4 k0_hw2 v127 v128 v21460 v21461 v21464 v21533 v21534 c13_i32_7152
  let ⟨v26892, v26893, v26896, v26904, v26905, v26906⟩ : Σ' (v26892 : IVec S8x512 32) (v26893 : FVec F S8x512 .f32) (v26896 : Vec F S8x512 .f32) (v26904 : IVec S8x512 32) (v26905 : IVec S8x512 32), IVec S8x512 32 ← k0_part874 arg0 harg0 arg1 harg1 alloca halloca v0 alloca_0 halloca_0 v1 arg4 k0_hw2 v127 v128 v24176 v24177 v24180 v24216 v24218 v24220
  let ⟨v29414, v29415, v29418, v29594⟩ : Σ' (v29414 : IVec S8x512 32) (v29415 : FVec F S8x512 .f32) (v29418 : Vec F S8x512 .f32), IVec S8x512 32 ← k0_part875 arg0 harg0 arg1 harg1 alloca halloca v0 alloca_0 halloca_0 v1 arg4 k0_hw2 v127 v128 v26892 v26893 v26896 v26904 v26905 v26906
  let ⟨v32130, v32131, v32134, v32278, v32279, v32280⟩ : Σ' (v32130 : IVec S8x512 32) (v32131 : FVec F S8x512 .f32) (v32134 : Vec F S8x512 .f32) (v32278 : IVec S8x512 32) (v32279 : IVec S8x512 32), IVec S8x512 32 ← k0_part876 arg0 harg0 arg1 harg1 alloca halloca v0 alloca_0 halloca_0 v1 arg4 k0_hw2 v127 v128 v29414 v29415 v29418 v29594
  let ⟨v34846, v34847, v34850, v34961, v34966⟩ : Σ' (v34846 : IVec S8x512 32) (v34847 : FVec F S8x512 .f32) (v34850 : Vec F S8x512 .f32) (v34961 : IVec S8x512 32), IVec S8x512 32 ← k0_part877 arg0 harg0 arg1 harg1 alloca halloca v0 alloca_0 halloca_0 v1 arg4 k0_hw2 v127 v128 v32130 v32131 v32134 v32278 v32279 v32280
  let ⟨v37562, v37563, v37566, v37649, v37650, v37652⟩ : Σ' (v37562 : IVec S8x512 32) (v37563 : FVec F S8x512 .f32) (v37566 : Vec F S8x512 .f32) (v37649 : IVec S8x512 32) (v37650 : IVec S8x512 32), IVec S8x512 32 ← k0_part878 arg0 harg0 arg1 harg1 alloca halloca v0 alloca_0 halloca_0 v1 arg4 k0_hw2 v127 v128 v34846 v34847 v34850 v34961 v34966
  let ⟨v38624, v38638, v38642, c1_i32_12895⟩ : Σ' (v38624 : BitVec 32) (v38638 : BitVec 32) (v38642 : BitVec 32), BitVec 32 ← k0_part879 arg0 harg0 arg1 harg1 alloca halloca v0 alloca_0 halloca_0 v1 k0_t1 arg3 arg4 arg5 arg6 arg7 k0_hw3 k0_hw2 k0_hw1 v68 v69 v70 v75 v80 v119 v127 v128 v37562 v37563 v37566 v37649 v37650 v37652
  let v38643 : BitVec 32 := Scalar.addi arg7 c1_i32_12895
  let true_12896 : BitVec 1 := 1#1
  let v38644 : BitVec 32 := Scalar.select true_12896 v38643 arg7
  let c16_i32_12897 : BitVec 32 := 16#32
  let v38645 : BitVec 1 := Scalar.cmpi .eq v38644 c16_i32_12897
  let c0_i32_12898 : BitVec 32 := 0#32
  let v38646 : BitVec 32 := Scalar.select v38645 c0_i32_12898 v38644
  pure (v100, v38642, v38624, v38638, v38646)

/-- The loop with its priming. -/
def rawOuter (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (v9 : BitVec 32) (v26 : BitVec 32) (v28 : BitVec 1) :
    Prog (TpuEff nD τ sig (Elt F) Λ₀ .tc) (Σ' (v35_3 : BitVec 32) (v35_4 : BitVec 32) (k0_hw5 : k0_chk5 v35_4) (k0_hw4 : k0_chk4 v35_3) (v40 : BitVec 32) (v54 : BitVec 32), BitVec 32) := do
  let true_26 : BitVec 1 := 1#1
  let v29 : BitVec 1 := Scalar.andi v28 true_26
  let v30 : BitVec 32 := Scalar.extui v29
  let c0_i32_27 : BitVec 32 := 0#32
  let v31 : BitVec 1 := Scalar.cmpi .ne v30 c0_i32_27
  if k0_h1 : k0_cond1 = 1#1 then do
    let c3_i32_65 : BitVec 32 := 3#32
    let v68 : BitVec 32 := Scalar.remui v26 c3_i32_65
    let c8_i32_66 : BitVec 32 := 8#32
    let v69 : BitVec 32 := Scalar.muli c8_i32_66 v9
    let v70 : DmaSems sig S1 := v0.slice (Rect.unit (s := S3) k0_off3 S1.size (k0_off3_inb k0_h1))
    let v71 : DmaSems sig S_ := v70.squeeze S_ squeezes_S1_S_
    let c0_i32_67 : BitVec 32 := 0#32
    let c0_i32_68 : BitVec 32 := 0#32
    let v72 : Memref sig .tc .vmem S1x8x100000 .f32 := alloca.slice (Rect.unit (s := S3x8x100000) k0_off4 S1x8x100000.size (k0_off4_inb k0_h1)) (fun _ => rfl)
    let v73 : Memref sig .tc .vmem S8x100000 .f32 := v72.squeeze S8x100000 squeezes_S1x8x100000_S8x100000
    let c0_i32_69 : BitVec 32 := 0#32
    let v74 : Memref sig .tc .hbm S8x100000 .f32 := arg0.slice (Rect.unit (s := S128x100000) k0_off5 S8x100000.size (k0_off5_inb k0_h1)) (fun _ => rfl)
    Prog.lift (.enqueueDma v74 (.here v73) (.dma v71.sem) (View.wordExact_bits rfl) ((View.wordExact_bits rfl).reshape _ _) ⟨Or.inl rfl, trivial⟩)
    pure ⟨⟩
  else do
    pure ⟨⟩
  let c1_i32_28 : BitVec 32 := 1#32
  let v32 : BitVec 32 := Scalar.addi v26 c1_i32_28
  let v33 : BitVec 32 := Scalar.select v28 v32 v26
  let c0_i32_29 : BitVec 32 := 0#32
  let c0_i32_30 : BitVec 32 := 0#32
  let c0_i32_31 : BitVec 32 := 0#32
  let c0_i32_32 : BitVec 32 := 0#32
  let c0_i32_33 : BitVec 32 := 0#32
  let c16_i32_34 : BitVec 32 := 16#32
  let v34 : BitVec 32 := Scalar.addi c0_i32_33 c16_i32_34
  let c1_i32_35 : BitVec 32 := 1#32
  let (v35_0, v35_1, v35_2, v35_3, v35_4) ← Scf.Loop.for k0_t1_loop k0_t1_ok (v33, c0_i32_29, c0_i32_30, c0_i32_31, c0_i32_32) fun k0_t1 (arg3, arg4, arg5, arg6, arg7) => do
    rawTrip arg0 harg0 arg1 harg1 alloca halloca v0 alloca_0 halloca_0 v1 c0_i32_33 c1_i32_35 k0_t1 arg3 arg4 arg5 arg6 arg7
  have k0_hw5 : k0_chk5 v35_4 := (← Prog.lift (TpuEff.assume (k0_chk5 v35_4) (k0_chk5.dec v35_4))).down
  have k0_hw4 : k0_chk4 v35_3 := (← Prog.lift (TpuEff.assume (k0_chk4 v35_3) (k0_chk4.dec v35_3))).down
  let c16_i32_36 : BitVec 32 := 16#32
  let c1_i32_37 : BitVec 32 := 1#32
  let v36 : BitVec 32 := Scalar.subi v35_4 c1_i32_37
  let true_38 : BitVec 1 := 1#1
  let v37 : BitVec 32 := Scalar.select true_38 v36 v35_4
  let c_m1_i32_39 : BitVec 32 := 4294967295#32
  let v38 : BitVec 1 := Scalar.cmpi .eq v37 c_m1_i32_39
  let c15_i32_40 : BitVec 32 := 15#32
  let v39 : BitVec 32 := Scalar.select v38 c15_i32_40 v37
  let c0_i32_41 : BitVec 32 := 0#32
  let v40 : BitVec 32 := Scalar.addi v39 c0_i32_41
  let c1_i32_42 : BitVec 32 := 1#32
  let v41 : BitVec 32 := Scalar.subi v39 c1_i32_42
  let true_43 : BitVec 1 := 1#1
  let v42 : BitVec 32 := Scalar.select true_43 v41 v39
  let c_m1_i32_44 : BitVec 32 := 4294967295#32
  let v43 : BitVec 1 := Scalar.cmpi .eq v42 c_m1_i32_44
  let c15_i32_45 : BitVec 32 := 15#32
  let v44 : BitVec 32 := Scalar.select v43 c15_i32_45 v42
  let c0_i32_46 : BitVec 32 := 0#32
  let v45 : BitVec 32 := Scalar.addi v44 c0_i32_46
  let c1_i32_47 : BitVec 32 := 1#32
  let v46 : BitVec 32 := Scalar.addi v39 c1_i32_47
  let true_48 : BitVec 1 := 1#1
  let v47 : BitVec 32 := Scalar.select true_48 v46 v39
  let c16_i32_49 : BitVec 32 := 16#32
  let v48 : BitVec 1 := Scalar.cmpi .eq v47 c16_i32_49
  let c0_i32_50 : BitVec 32 := 0#32
  let v49 : BitVec 32 := Scalar.select v48 c0_i32_50 v47
  let c0_i32_51 : BitVec 32 := 0#32
  let v50 : BitVec 32 := Scalar.addi v49 c0_i32_51
  let c1_i32_52 : BitVec 32 := 1#32
  let v51 : BitVec 32 := Scalar.addi v49 c1_i32_52
  let true_53 : BitVec 1 := 1#1
  let v52 : BitVec 32 := Scalar.select true_53 v51 v49
  let c16_i32_54 : BitVec 32 := 16#32
  let v53 : BitVec 1 := Scalar.cmpi .eq v52 c16_i32_54
  let c0_i32_55 : BitVec 32 := 0#32
  let v54 : BitVec 32 := Scalar.select v53 c0_i32_55 v52
  let c0_i32_56 : BitVec 32 := 0#32
  pure ⟨v35_3, v35_4, k0_hw5, k0_hw4, v40, v54, c0_i32_56⟩

theorem rawOuter_eq : k0_part881 (F := F) = rawOuter := rfl

end Cert.Proof.Body
-- ==== Proof.Eq.lean ====
module

public import proofs.«01_k».proof.Proof.Trip
public import proofs.«01_k».proof.Proof.Raw

@[expose] public section

noncomputable section

/-! The printed trip, its parts joined: the trip whose transfers and block are named. -/

namespace Cert.Proof.Body

open Cert.KernelIdeal Cert.KernelIdeal.Facts₀ Cert.KernelIdeal.Facts
open Idealize.ShloMosaic Idealize.SL.Sem

variable {F : FTy → Type} [FloatOps F] [Facts]

/-- The rest of the second part: the block's counters and the first chunk's load. -/
def tail2 (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (k0_t1 : Fin k0_t1_loop.trips) (arg3 : BitVec 32) (arg4 : BitVec 32) (arg5 : BitVec 32) (arg6 : BitVec 32) (arg7 : BitVec 32) (k0_hw2 : k0_chk2 arg4) (k0_hw1 : k0_chk1 k0_t1 arg3 arg4 arg5 arg6 arg7) (arg2 : BitVec 32) (v68 : BitVec 1) (v70 : BitVec 32) (v75 : BitVec 32) (v80 : BitVec 32) (v85 : BitVec 32) (v94 : BitVec 1) (v96 : BitVec 32) (c0_i32_90 : BitVec 32) :
    Prog (TpuEff nD τ sig (Elt F) Λ₀ .tc) (Σ' (v100 : BitVec 32) (v119 : BitVec 32) (v127 : IVec S8x512 32) (v128 : IVec S8x512 32) (v131 : Vec F S8x512 .f32) (v133 : IVec S8x512 32), IVec S8x512 32) := do
  let v100 : BitVec 32 := Scalar.select (Scalar.andi v94 1#1) (Scalar.addi arg3 1#32) arg3
  let c800000_i32 : BitVec 32 := 800000#32
  let v119 : BitVec 32 := Scalar.muli v70 c800000_i32
  let c42_i32 : BitVec 32 := 42#32
  let v120 : BitVec 32 := Scalar.addi v119 c42_i32
  have v121 : IVec S8x512 32 := iota .tc S8x512 32 [0] iota_S8x512_d0_w32
  let c100000_i32 : BitVec 32 := 100000#32
  have v122 : IVec S8x512 32 := broadcast S8x512 c100000_i32
  have v123 : IVec S8x512 32 := muli v121 v122
  have v124 : IVec S8x512 32 := broadcast S8x512 v120
  have v125 : IVec S8x512 32 := addi v124 v123
  have v126 : IVec S8x512 32 := iota .tc S8x512 32 [1] iota_S8x512_d1_w32
  have v127 : IVec S8x512 32 := addi v125 v126
  have v128 : IVec S8x512 32 := iota .tc S8x512 32 [1] iota_S8x512_d1_w32
  let c0_i32_101 : BitVec 32 := 0#32
  let c0_i32_102 : BitVec 32 := 0#32
  let v129 : Memref sig .tc .vmem S1x8x100000 .f32 := alloca.slice (Rect.unit (s := S3x8x100000) (k0_off12 arg4) S1x8x100000.size (k0_off12_inb arg4 k0_hw2)) (fun _ => rfl)
  let v130 : Memref sig .tc .vmem S8x100000 .f32 := v129.squeeze S8x100000 squeezes_S1x8x100000_S8x100000
  let c0 : Index := 0#32
  let c0_103 : Index := 0#32
  let v131 : Vec F S8x512 .f32 ← Prog.lift (.load v130 (Rect.unit (s := S8x100000) ![0, 0] S8x512.size inb_S8x100000_S8x512_0_0).toLoadRect (View.loadsAt_vmem h_S8x512))
  let c13_i32 : BitVec 32 := 13#32
  have v132 : IVec S8x512 32 := broadcast S8x512 c13_i32
  have v133 : IVec S8x512 32 := shli v127 v132
  let c19_i32 : BitVec 32 := 19#32
  have v134 : IVec S8x512 32 := broadcast S8x512 c19_i32
  pure ⟨v100, v119, v127, v128, v131, v133, v134⟩

theorem part2_bind {α : Type} (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (k0_t1 : Fin k0_t1_loop.trips) (arg3 : BitVec 32) (arg4 : BitVec 32) (arg5 : BitVec 32) (arg6 : BitVec 32) (arg7 : BitVec 32) (k0_hw2 : k0_chk2 arg4) (k0_hw1 : k0_chk1 k0_t1 arg3 arg4 arg5 arg6 arg7) (arg2 : BitVec 32) (v68 : BitVec 1) (v70 : BitVec 32) (v75 : BitVec 32) (v80 : BitVec 32) (v85 : BitVec 32) (v94 : BitVec 1) (v96 : BitVec 32) (c0_i32_90 : BitVec 32) (K : _ → P F α) :
    (k0_part2 arg0 harg0 arg1 harg1 alloca halloca v0 alloca_0 halloca_0 v1 k0_t1 arg3 arg4 arg5 arg6 arg7 k0_hw2 k0_hw1 arg2 v68 v70 v75 v80 v85 v94 v96 c0_i32_90).bind K =
      (copyIn arg0 harg0 arg1 harg1 alloca halloca v0 alloca_0 halloca_0 v1 k0_t1 arg3 arg4 arg5 arg6 arg7 k0_hw1).bind fun _ =>
        (waitIn arg0 harg0 arg1 harg1 alloca halloca v0 alloca_0 halloca_0 v1 k0_t1 arg3 arg4 arg5 arg6 arg7 k0_hw1).bind fun _ => (tail2 arg0 harg0 arg1 harg1 alloca halloca v0 alloca_0 halloca_0 v1 k0_t1 arg3 arg4 arg5 arg6 arg7 k0_hw2 k0_hw1 arg2 v68 v70 v75 v80 v85 v94 v96 c0_i32_90).bind K := by
  unfold k0_part2 copyIn waitIn
  by_cases h2 : k0_cond2 k0_t1 arg7 = 1#1 <;> by_cases h3 : k0_cond3 k0_t1 arg7 = 1#1 <;>
    simp only [h2, h3, dif_pos, dif_neg, ite_self, not_false_eq_true] <;> exact rfl

attribute [local irreducible] addi xori ori shli shrui broadcast select cmpf maximumf subf addf bitcastToFloat log muli subi cmpi iota shapeCast multiReduction multiReductionI sitofp extui broadcastTo

set_option maxRecDepth 1000000 in
set_option maxHeartbeats 0 in
theorem trip_eq (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (c0_i32_33 : BitVec 32) (c1_i32_35 : BitVec 32) (k0_t1 : Fin k0_t1_loop.trips) (arg3 arg4 arg5 arg6 arg7 : BitVec 32) :
    rawTrip (F := F) arg0 harg0 arg1 harg1 alloca halloca v0 alloca_0 halloca_0 v1 c0_i32_33 c1_i32_35 k0_t1 arg3 arg4 arg5 arg6 arg7 = trip arg0 harg0 arg1 harg1 alloca halloca v0 alloca_0 halloca_0 v1 c0_i32_33 c1_i32_35 k0_t1 arg3 arg4 arg5 arg6 arg7 := by
  refine congrArg (Prog.op _) (funext fun h3 => ?_)
  refine congrArg (Prog.op _) (funext fun h2 => ?_)
  refine congrArg (Prog.op _) (funext fun h1 => ?_)
  refine (Prog.bind_assoc (k0_part2 _ _ _ _ _ _ _ _ _ _ _ _ _ _ _ _ _ _ _ _ _ _ _ _ _ _ _ ) _ _).trans ?_
  refine (part2_bind _ _ _ _ _ _ _ _ _ _ _ _ _ _ _ _ _ _ _ _ _ _ _ _ _ _ _ _).trans ?_
  refine congrArg (Prog.bind _) (funext fun _ => ?_)
  refine congrArg (Prog.bind _) (funext fun _ => ?_)
  refine congrArg (Prog.op _) (funext fun r0 => ?_)
  exact rfl

end Cert.Proof.Body
-- ==== Proof.Step.lean ====
module

public import proofs.«01_k».proof.Proof.Eq

@[expose] public section

noncomputable section

namespace Cert.Proof.Body

open Cert.KernelIdeal Cert.KernelIdeal.Facts₀ Cert.KernelIdeal.Facts
open Idealize.ShloMosaic Idealize.SL.Sem

variable {F : FTy → Type} [FloatOps F] [Facts]

theorem chunks_bind {α β : Type} (v : Memref sig .tc .vmem S8x100000 .f32) (j c : IVec S8x512 32)
    (K : FVec F S8x512 .f32 → IVec S8x512 32 → P F α) (f : α → P F β) :
    ∀ (n k : ℕ) (h : n + k ≤ 195) (b : FVec F S8x512 .f32) (i : IVec S8x512 32),
      (chunks v j c K n k h b i).bind f = chunks v j c (fun b i => (K b i).bind f) n k h b i
  | 0, _, _, _, _ => rfl
  | n + 1, k, h, b, i => congrArg (Prog.op _) (funext fun x => chunks_bind v j c K f n (k + 1) _ _ _)

theorem stores_bind {α β : Type} (v : Memref sig .tc .vmem S8x100000 .f32) (w : IVec S8x1 32)
    (K : P F α) (f : α → P F β) :
    ∀ (n k : ℕ) (h : n + k ≤ 48), (stores v w K n k h).bind f = stores v w (K.bind f) n k h
  | 0, _, _ => rfl
  | n + 1, k, h => congrArg (Prog.op _) (funext fun x => congrArg (Prog.op _)
      (funext fun y => stores_bind v w K f n (k + 1) _))

/-- What follows a block may be put at its end. -/
theorem block_bind {α β : Type} (q : BitVec 32) (v u : Memref sig .tc .vmem S8x100000 .f32)
    (K : P F α) (f : α → P F β) : (block q v u K).bind f = block q v u (K.bind f) :=
  congrArg (Prog.op _) (funext fun x => (chunks_bind v _ _ _ f _ _ _ _ _).trans
    (congrArg (fun L => chunks v _ _ L _ _ _ _ _) (funext fun b => funext fun i =>
      congrArg (Prog.op _) (funext fun y => stores_bind u _ _ f _ _ _))))

theorem bind_congr_right {α β : Type} (p : P F α) (f g : α → P F β) (h : ∀ x, f x = g x) :
    p.bind f = p.bind g := congrArg p.bind (funext h)

theorem block_bind3 {α β γ δ : Type} (q : BitVec 32) (v u : Memref sig .tc .vmem S8x100000 .f32)
    (K : P F α) (f : α → P F β) (g : β → P F γ) (h : γ → P F δ) :
    (((block q v u K).bind f).bind g).bind h = block q v u (((K.bind f).bind g).bind h) := by
  rw [block_bind, block_bind, block_bind]

/-- The words a trip hands to the next. -/
def nextWords (c0_i32_33 c1_i32_35 : BitVec 32) (k0_t1 : Fin k0_t1_loop.trips) (arg3 arg4 arg5 arg6 arg7 : BitVec 32) :
    BitVec 32 × BitVec 32 × BitVec 32 × BitVec 32 × BitVec 32 :=
  let arg2 : BitVec 32 := Scf.iv c0_i32_33 c1_i32_35 k0_t1
  let c0_i32_65 : BitVec 32 := 0#32
  let v68 : BitVec 1 := Scalar.cmpi .eq arg2 c0_i32_65
  let c15_i32_66 : BitVec 32 := 15#32
  let v69 : BitVec 1 := Scalar.cmpi .eq arg2 c15_i32_66
  let c0_i32_67 : BitVec 32 := 0#32
  let v70 : BitVec 32 := Scalar.addi arg7 c0_i32_67
  let c1_i32_68 : BitVec 32 := 1#32
  let v71 : BitVec 32 := Scalar.subi arg7 c1_i32_68
  let true_69 : BitVec 1 := 1#1
  let v72 : BitVec 32 := Scalar.select true_69 v71 arg7
  let c_m1_i32_70 : BitVec 32 := 4294967295#32
  let v73 : BitVec 1 := Scalar.cmpi .eq v72 c_m1_i32_70
  let c15_i32_71 : BitVec 32 := 15#32
  let v74 : BitVec 32 := Scalar.select v73 c15_i32_71 v72
  let c0_i32_72 : BitVec 32 := 0#32
  let v75 : BitVec 32 := Scalar.addi v74 c0_i32_72
  let c1_i32_73 : BitVec 32 := 1#32
  let v76 : BitVec 32 := Scalar.addi arg7 c1_i32_73
  let true_74 : BitVec 1 := 1#1
  let v77 : BitVec 32 := Scalar.select true_74 v76 arg7
  let c16_i32_75 : BitVec 32 := 16#32
  let v78 : BitVec 1 := Scalar.cmpi .eq v77 c16_i32_75
  let c0_i32_76 : BitVec 32 := 0#32
  let v79 : BitVec 32 := Scalar.select v78 c0_i32_76 v77
  let c0_i32_77 : BitVec 32 := 0#32
  let v80 : BitVec 32 := Scalar.addi v79 c0_i32_77
  let c1_i32_78 : BitVec 32 := 1#32
  let v81 : BitVec 32 := Scalar.addi v79 c1_i32_78
  let true_79 : BitVec 1 := 1#1
  let v82 : BitVec 32 := Scalar.select true_79 v81 v79
  let c16_i32_80 : BitVec 32 := 16#32
  let v83 : BitVec 1 := Scalar.cmpi .eq v82 c16_i32_80
  let c0_i32_81 : BitVec 32 := 0#32
  let v84 : BitVec 32 := Scalar.select v83 c0_i32_81 v82
  let c0_i32_82 : BitVec 32 := 0#32
  let v85 : BitVec 32 := Scalar.addi v84 c0_i32_82
  let v91 : BitVec 1 := Scalar.cmpi .ne v80 v85
  let c14_i32 : BitVec 32 := 14#32
  let v92 : BitVec 1 := Scalar.cmpi .sge arg2 c14_i32
  let true_88 : BitVec 1 := 1#1
  let v93 : BitVec 1 := Scalar.xori v92 true_88
  let v94 : BitVec 1 := Scalar.andi v91 v93
  let true_91 : BitVec 1 := 1#1
  let v98 : BitVec 1 := Scalar.andi v94 true_91
  let c1_i32_92 : BitVec 32 := 1#32
  let v99 : BitVec 32 := Scalar.addi arg3 c1_i32_92
  let v100 : BitVec 32 := Scalar.select v98 v99 arg3
  let v38618 : BitVec 1 := Scalar.cmpi .ne v70 v80
  let v38619 : BitVec 1 := Scalar.ori v38618 v69
  let true_12885 : BitVec 1 := 1#1
  let v38622 : BitVec 1 := Scalar.andi v38619 true_12885
  let c1_i32_12886 : BitVec 32 := 1#32
  let v38623 : BitVec 32 := Scalar.addi arg5 c1_i32_12886
  let v38624 : BitVec 32 := Scalar.select v38622 v38623 arg5
  let v38631 : BitVec 1 := Scalar.cmpi .ne v70 v75
  let true_12890 : BitVec 1 := 1#1
  let v38632 : BitVec 1 := Scalar.xori v68 true_12890
  let v38633 : BitVec 1 := Scalar.andi v38631 v38632
  let true_12892 : BitVec 1 := 1#1
  let v38636 : BitVec 1 := Scalar.andi v38633 true_12892
  let c1_i32_12893 : BitVec 32 := 1#32
  let v38637 : BitVec 32 := Scalar.addi arg6 c1_i32_12893
  let v38638 : BitVec 32 := Scalar.select v38636 v38637 arg6
  let v38639 : BitVec 1 := Scalar.cmpi .ne v70 v80
  let v38640 : BitVec 1 := Scalar.ori v38639 v69
  let c1_i32_12894 : BitVec 32 := 1#32
  let v38641 : BitVec 32 := Scalar.addi arg4 c1_i32_12894
  let v38642 : BitVec 32 := Scalar.select v38640 v38641 arg4
  let c1_i32_12895 : BitVec 32 := 1#32
  let v38643 : BitVec 32 := Scalar.addi arg7 c1_i32_12895
  let true_12896 : BitVec 1 := 1#1
  let v38644 : BitVec 32 := Scalar.select true_12896 v38643 arg7
  let c16_i32_12897 : BitVec 32 := 16#32
  let v38645 : BitVec 1 := Scalar.cmpi .eq v38644 c16_i32_12897
  let c0_i32_12898 : BitVec 32 := 0#32
  let v38646 : BitVec 32 := Scalar.select v38645 c0_i32_12898 v38644
  (v100, v38642, v38624, v38638, v38646)

/-- One trip of the pipeline's loop: fetch ahead, wait, compute, send, wait. -/
def step (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (c0_i32_33 : BitVec 32) (c1_i32_35 : BitVec 32) (k0_t1 : Fin k0_t1_loop.trips) (arg3 arg4 arg5 arg6 arg7 : BitVec 32)  :
    P F (BitVec 32 × BitVec 32 × BitVec 32 × BitVec 32 × BitVec 32) := do
  have k0_hw3 : k0_chk3 arg5 := (← Prog.lift (TpuEff.assume (k0_chk3 arg5) (k0_chk3.dec arg5))).down
  have k0_hw2 : k0_chk2 arg4 := (← Prog.lift (TpuEff.assume (k0_chk2 arg4) (k0_chk2.dec arg4))).down
  have k0_hw1 : k0_chk1 k0_t1 arg3 arg4 arg5 arg6 arg7 := (← Prog.lift (TpuEff.assume (k0_chk1 k0_t1 arg3 arg4 arg5 arg6 arg7) (k0_chk1.dec k0_t1 arg3 arg4 arg5 arg6 arg7))).down
  copyIn arg0 harg0 arg1 harg1 alloca halloca v0 alloca_0 halloca_0 v1 k0_t1 arg3 arg4 arg5 arg6 arg7 k0_hw1
  waitIn arg0 harg0 arg1 harg1 alloca halloca v0 alloca_0 halloca_0 v1 k0_t1 arg3 arg4 arg5 arg6 arg7 k0_hw1
  block (Scalar.muli (Scalar.addi arg7 0#32) 800000#32)
    ((alloca.slice (Rect.unit (s := S3x8x100000) (k0_off12 arg4) S1x8x100000.size (k0_off12_inb arg4 k0_hw2)) (fun _ => rfl)).squeeze S8x100000 squeezes_S1x8x100000_S8x100000)
    ((alloca_0.slice (Rect.unit (s := S2x8x100000) (k0_off13 arg5) S1x8x100000.size (k0_off13_inb arg5 k0_hw3)) (fun _ => rfl)).squeeze S8x100000 squeezes_S1x8x100000_S8x100000)
    ((copyOut arg0 harg0 arg1 harg1 alloca halloca v0 alloca_0 halloca_0 v1 k0_t1 arg3 arg4 arg5 arg6 arg7 k0_hw1).bind fun _ =>
      (waitOut arg0 harg0 arg1 harg1 alloca halloca v0 alloca_0 halloca_0 v1 k0_t1 arg3 arg4 arg5 arg6 arg7 k0_hw1).bind fun _ =>
        pure (nextWords c0_i32_33 c1_i32_35 k0_t1 arg3 arg4 arg5 arg6 arg7))

/-- The printed trip, its last two transfers named. -/
theorem trip_eq_step (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (c0_i32_33 : BitVec 32) (c1_i32_35 : BitVec 32) (k0_t1 : Fin k0_t1_loop.trips) (arg3 arg4 arg5 arg6 arg7 : BitVec 32)  :
    trip (F := F) arg0 harg0 arg1 harg1 alloca halloca v0 alloca_0 halloca_0 v1 c0_i32_33 c1_i32_35 k0_t1 arg3 arg4 arg5 arg6 arg7 = step (F := F) arg0 harg0 arg1 harg1 alloca halloca v0 alloca_0 halloca_0 v1 c0_i32_33 c1_i32_35 k0_t1 arg3 arg4 arg5 arg6 arg7 := by
  refine congrArg (Prog.op _) (funext fun h3 => congrArg (Prog.op _) (funext fun h2 => congrArg (Prog.op _) (funext fun h1 => ?_)))
  refine bind_congr_right (.ret h1) _ _ fun h1 => ?_
  refine bind_congr_right _ _ _ fun _ => ?_
  refine bind_congr_right _ _ _ fun _ => ?_
  refine (block_bind3 (F := F) _ _ _ _ _ _ _).trans ?_
  refine congrArg (block _ _ _) ?_
  unfold copyOut waitOut
  by_cases h6 : k0_cond6 k0_t1 arg7 = 1#1 <;> by_cases h8 : k0_cond8 k0_t1 arg7 = 1#1
  all_goals
    simp only [dif_pos, dif_neg, h6, h8, not_false_eq_true, ite_self, apply_ite]
  all_goals rfl

end Cert.Proof.Body
-- ==== Proof.Words.lean ====
module

public import proofs.«01_k».proof.Proof.Step
public import Idealize.ShloMosaic.Lib.Ring

@[expose] public section

noncomputable section

/-! The words the loop carries, and each transfer of a trip at the slots and the block it names. -/

namespace Cert.Proof.Body

open Cert.KernelIdeal Cert.KernelIdeal.Facts₀ Cert.KernelIdeal.Facts
open Idealize.ShloMosaic Idealize.SL.Sem
open Idealize.ShloMosaic.Ring (sl bk)

variable {F : FTy → Type} [FloatOps F]

/-- The copies started before trip `k`. -/
abbrev w3 (k : ℕ) : BitVec 32 := BitVec.ofNat 32 (if k + 2 < 16 then k + 2 else 16)
/-- The blocks read before trip `k`. -/
abbrev w4 (k : ℕ) : BitVec 32 := BitVec.ofNat 32 k
/-- The output copies waited for before trip `k`. -/
abbrev w6 (k : ℕ) : BitVec 32 := BitVec.ofNat 32 (k - 1)
/-- The pipeline's step at trip `k`. -/
abbrev w7 (k : ℕ) : BitVec 32 := BitVec.ofNat 32 (k % 16)

theorem chk1_w : ∀ k : Fin k0_t1_loop.trips, k0_chk1 k (w3 k) (w4 k) (w4 k) (w6 k) (w7 k) := by decide
theorem chk2_w : ∀ k : Fin k0_t1_loop.trips, k0_chk2 (w4 k) := by decide
theorem chk3_w : ∀ k : Fin k0_t1_loop.trips, k0_chk3 (w4 k) := by decide
theorem chk4_w : k0_chk4 (w6 16) := by decide
theorem chk5_w : k0_chk5 (w7 16) := by decide
theorem cond2_w : ∀ k : Fin k0_t1_loop.trips, k0_cond2 k (w7 k) = 1#1 ↔ k.val + 2 < 16 := by decide
theorem cond3_w : ∀ k : Fin k0_t1_loop.trips, k0_cond3 k (w7 k) = 1#1 := by decide
theorem cond6_w : ∀ k : Fin k0_t1_loop.trips, k0_cond6 k (w7 k) = 1#1 := by decide
theorem cond8_w : ∀ k : Fin k0_t1_loop.trips, k0_cond8 k (w7 k) = 1#1 ↔ 1 ≤ k.val := by decide
theorem off6_w : ∀ k : Fin k0_t1_loop.trips, k.val + 2 < 16 → k0_off6 (w3 k) = ![(sl 3 (k.val + 2)).val] := by decide
theorem off7_w : ∀ k : Fin k0_t1_loop.trips, k.val + 2 < 16 → k0_off7 (w3 k) = ![(sl 3 (k.val + 2)).val, 0, 0] := by decide
theorem off8_w : ∀ k : Fin k0_t1_loop.trips, k.val + 2 < 16 → k0_off8 (w7 k) = ![8 * (bk 16 (k.val + 2)).val, 0] := by decide
theorem off9_w : ∀ k : Fin k0_t1_loop.trips, k0_off9 (w4 k) = ![(sl 3 k.val).val] := by decide
theorem off10_w : ∀ k : Fin k0_t1_loop.trips, k0_off10 (w4 k) = ![(sl 3 k.val).val, 0, 0] := by decide
theorem off11_w : ∀ k : Fin k0_t1_loop.trips, k0_off11 (w7 k) = ![8 * (bk 16 k.val).val, 0] := by decide
theorem off12_w : ∀ k : Fin k0_t1_loop.trips, k0_off12 (w4 k) = ![(sl 3 k.val).val, 0, 0] := by decide
theorem off13_w : ∀ k : Fin k0_t1_loop.trips, k0_off13 (w4 k) = ![(sl 2 k.val).val, 0, 0] := by decide
theorem off14_w : ∀ k : Fin k0_t1_loop.trips, k0_off14 (w4 k) = ![(sl 2 k.val).val] := by decide
theorem off15_w : ∀ k : Fin k0_t1_loop.trips, k0_off15 (w7 k) = ![8 * (bk 16 k.val).val, 0] := by decide
theorem off16_w : ∀ k : Fin k0_t1_loop.trips, k0_off16 (w4 k) = ![(sl 2 k.val).val, 0, 0] := by decide
theorem off17_w : ∀ k : Fin k0_t1_loop.trips, 1 ≤ k.val → k0_off17 (w6 k) = ![(sl 2 (k.val + 1)).val] := by decide
theorem off18_w : ∀ k : Fin k0_t1_loop.trips, 1 ≤ k.val → k0_off18 (w7 k) = ![8 * (bk 16 (k.val - 1)).val, 0] := by decide
theorem off19_w : ∀ k : Fin k0_t1_loop.trips, 1 ≤ k.val → k0_off19 (w6 k) = ![(sl 2 (k.val + 1)).val, 0, 0] := by decide
theorem next_w : ∀ k : Fin k0_t1_loop.trips, nextWords 0#32 1#32 k (w3 k) (w4 k) (w4 k) (w6 k) (w7 k)
    = (w3 (k + 1), w4 (k + 1), w4 (k + 1), w6 (k + 1), w7 (k + 1)) := by decide
theorem block_w : ∀ k : Fin k0_t1_loop.trips, Scalar.muli (Scalar.addi (w7 k) 0#32) 800000#32 = BitVec.ofNat 32 (k * 800000) := by decide

theorem off1_w : k0_off1 = ![(sl 3 0).val] := by decide
theorem off2_w : k0_off2 = ![(sl 3 0).val, 0, 0] := by decide
theorem cond1_w : k0_cond1 = 1#1 := by decide
theorem off3_w : k0_off3 = ![(sl 3 1).val] := by decide
theorem off4_w : k0_off4 = ![(sl 3 1).val, 0, 0] := by decide
theorem off5_w : k0_off5 = ![8 * (bk 16 1).val, 0] := by decide
theorem off20_w : k0_off20 (w6 16) = ![(sl 2 (16 + 1)).val] := by decide
theorem off21_w : k0_off21 (w7 16) = ![8 * (bk 16 (16 - 1)).val, 0] := by decide
theorem off22_w : k0_off22 (w6 16) = ![(sl 2 (16 + 1)).val, 0, 0] := by decide

/-! ## The slots, the cells and the blocks -/

theorem inb_rslot (s : Fin 3) : ∀ a, (![s.val, 0, 0] : Fin 3 → Nat) a + S1x8x100000.size a ≤ S3x8x100000.size a := by
  revert s; decide
theorem inb_wslot (s : Fin 2) : ∀ a, (![s.val, 0, 0] : Fin 3 → Nat) a + S1x8x100000.size a ≤ S2x8x100000.size a := by
  revert s; decide
theorem inb_rcell (s : Fin 3) : ∀ a, (![s.val] : Fin 1 → Nat) a + S1.size a ≤ S3.size a := by
  revert s; decide
theorem inb_wcell (s : Fin 2) : ∀ a, (![s.val] : Fin 1 → Nat) a + S1.size a ≤ S2.size a := by
  revert s; decide
theorem inb_blk (b : Fin 16) : ∀ a, (![8 * b.val, 0] : Fin 2 → Nat) a + S8x100000.size a ≤ S128x100000.size a := by
  revert b; decide

variable [Facts]

/-- The slot `s` of the read ring. -/
abbrev rslot (A : Memref sig .tc .vmem S3x8x100000 .f32) (s : Fin 3) : Memref sig .tc .vmem S8x100000 .f32 :=
  (A.slice (Rect.unit (s := S3x8x100000) ![s.val, 0, 0] S1x8x100000.size (inb_rslot s)) (fun _ => rfl)).squeeze S8x100000 squeezes_S1x8x100000_S8x100000
/-- The slot `s` of the write ring. -/
abbrev wslot (A : Memref sig .tc .vmem S2x8x100000 .f32) (s : Fin 2) : Memref sig .tc .vmem S8x100000 .f32 :=
  (A.slice (Rect.unit (s := S2x8x100000) ![s.val, 0, 0] S1x8x100000.size (inb_wslot s)) (fun _ => rfl)).squeeze S8x100000 squeezes_S1x8x100000_S8x100000
/-- The semaphore of the read slot `s`. -/
abbrev rsem (v : DmaSems sig S3) (s : Fin 3) : DmaSem sig :=
  ((v.slice (Rect.unit (s := S3) ![s.val] S1.size (inb_rcell s))).squeeze S_ squeezes_S1_S_).sem
/-- The semaphore of the write slot `s`. -/
abbrev wsem (v : DmaSems sig S2) (s : Fin 2) : DmaSem sig :=
  ((v.slice (Rect.unit (s := S2) ![s.val] S1.size (inb_wcell s))).squeeze S_ squeezes_S1_S_).sem
/-- The block `b` of the rows of an array. -/
abbrev blk (A : Memref sig .tc .hbm S128x100000 .f32) (b : Fin 16) : Memref sig .tc .hbm S8x100000 .f32 :=
  A.slice (Rect.unit (s := S128x100000) ![8 * b.val, 0] S8x100000.size (inb_blk b)) (fun _ => rfl)

/-! ## Each transfer of a trip -/

theorem start_r (A : Memref sig .tc .hbm S128x100000 .f32) (M : Memref sig .tc .vmem S3x8x100000 .f32) (v : DmaSems sig S3) (s : Fin 3) (b : Fin 16) (o1 : Fin 1 → Nat) (o2 : Fin 3 → Nat) (o3 : Fin 2 → Nat) (h1 : ∀ a, o1 a + S1.size a ≤ S3.size a) (h2 : ∀ a, o2 a + S1x8x100000.size a ≤ S3x8x100000.size a) (h3 : ∀ a, o3 a + S8x100000.size a ≤ S128x100000.size a) (e1 : o1 = ![s.val]) (e2 : o2 = ![s.val, 0, 0]) (e3 : o3 = ![8 * b.val, 0]) :
    ((do Prog.lift (.enqueueDma (A.slice (Rect.unit (s := S128x100000) o3 S8x100000.size h3) (fun _ => rfl)) (.here ((M.slice (Rect.unit (s := S3x8x100000) o2 S1x8x100000.size h2) (fun _ => rfl)).squeeze S8x100000 squeezes_S1x8x100000_S8x100000)) (.dma ((v.slice (Rect.unit (s := S3) o1 S1.size h1)).squeeze S_ squeezes_S1_S_).sem) (View.wordExact_bits rfl) ((View.wordExact_bits rfl).reshape _ _) ⟨Or.inl rfl, trivial⟩); pure ⟨⟩) : P F PUnit)
      = .op (.enqueueDma (blk A b) (.here (rslot M s)) (.dma (rsem v s)) (View.wordExact_bits rfl) ((View.wordExact_bits rfl).reshape _ _) ⟨Or.inl rfl, trivial⟩) fun _ => pure ⟨⟩ := by
  subst e1 e2 e3; rfl

theorem wait_r (A : Memref sig .tc .hbm S128x100000 .f32) (M : Memref sig .tc .vmem S3x8x100000 .f32) (v : DmaSems sig S3) (s : Fin 3) (b : Fin 16) (o1 : Fin 1 → Nat) (o2 : Fin 3 → Nat) (o3 : Fin 2 → Nat) (h1 : ∀ a, o1 a + S1.size a ≤ S3.size a) (h2 : ∀ a, o2 a + S1x8x100000.size a ≤ S3x8x100000.size a) (h3 : ∀ a, o3 a + S8x100000.size a ≤ S128x100000.size a) (e1 : o1 = ![s.val]) (e2 : o2 = ![s.val, 0, 0]) (e3 : o3 = ![8 * b.val, 0]) :
    ((do Prog.lift (.waitDma2 ((v.slice (Rect.unit (s := S3) o1 S1.size h1)).squeeze S_ squeezes_S1_S_).sem (A.slice (Rect.unit (s := S128x100000) o3 S8x100000.size h3) (fun _ => rfl)) ((M.slice (Rect.unit (s := S3x8x100000) o2 S1x8x100000.size h2) (fun _ => rfl)).squeeze S8x100000 squeezes_S1x8x100000_S8x100000) (View.wordExact_bits rfl) ((View.wordExact_bits rfl).reshape _ _)); pure ⟨⟩) : P F PUnit)
      = .op (.waitDma2 (rsem v s) (blk A b) (rslot M s) (View.wordExact_bits rfl) ((View.wordExact_bits rfl).reshape _ _)) fun _ => pure ⟨⟩ := by
  subst e1 e2 e3; rfl

theorem start_w (A : Memref sig .tc .hbm S128x100000 .f32) (M : Memref sig .tc .vmem S2x8x100000 .f32) (v : DmaSems sig S2) (s : Fin 2) (b : Fin 16) (o1 : Fin 1 → Nat) (o2 : Fin 3 → Nat) (o3 : Fin 2 → Nat) (h1 : ∀ a, o1 a + S1.size a ≤ S2.size a) (h2 : ∀ a, o2 a + S1x8x100000.size a ≤ S2x8x100000.size a) (h3 : ∀ a, o3 a + S8x100000.size a ≤ S128x100000.size a) (e1 : o1 = ![s.val]) (e2 : o2 = ![s.val, 0, 0]) (e3 : o3 = ![8 * b.val, 0]) :
    ((do Prog.lift (.enqueueDma ((M.slice (Rect.unit (s := S2x8x100000) o2 S1x8x100000.size h2) (fun _ => rfl)).squeeze S8x100000 squeezes_S1x8x100000_S8x100000) (.here (A.slice (Rect.unit (s := S128x100000) o3 S8x100000.size h3) (fun _ => rfl))) (.dma ((v.slice (Rect.unit (s := S2) o1 S1.size h1)).squeeze S_ squeezes_S1_S_).sem) ((View.wordExact_bits rfl).reshape _ _) (View.wordExact_bits rfl) ⟨Or.inl rfl, trivial⟩); pure ⟨⟩) : P F PUnit)
      = .op (.enqueueDma (wslot M s) (.here (blk A b)) (.dma (wsem v s)) ((View.wordExact_bits rfl).reshape _ _) (View.wordExact_bits rfl) ⟨Or.inl rfl, trivial⟩) fun _ => pure ⟨⟩ := by
  subst e1 e2 e3; rfl

theorem wait_w (A : Memref sig .tc .hbm S128x100000 .f32) (M : Memref sig .tc .vmem S2x8x100000 .f32) (v : DmaSems sig S2) (s : Fin 2) (b : Fin 16) (o1 : Fin 1 → Nat) (o2 : Fin 3 → Nat) (o3 : Fin 2 → Nat) (h1 : ∀ a, o1 a + S1.size a ≤ S2.size a) (h2 : ∀ a, o2 a + S1x8x100000.size a ≤ S2x8x100000.size a) (h3 : ∀ a, o3 a + S8x100000.size a ≤ S128x100000.size a) (e1 : o1 = ![s.val]) (e2 : o2 = ![s.val, 0, 0]) (e3 : o3 = ![8 * b.val, 0]) :
    ((do Prog.lift (.waitDma2 ((v.slice (Rect.unit (s := S2) o1 S1.size h1)).squeeze S_ squeezes_S1_S_).sem ((M.slice (Rect.unit (s := S2x8x100000) o2 S1x8x100000.size h2) (fun _ => rfl)).squeeze S8x100000 squeezes_S1x8x100000_S8x100000) (A.slice (Rect.unit (s := S128x100000) o3 S8x100000.size h3) (fun _ => rfl)) ((View.wordExact_bits rfl).reshape _ _) (View.wordExact_bits rfl)); pure ⟨⟩) : P F PUnit)
      = .op (.waitDma2 (wsem v s) (wslot M s) (blk A b) ((View.wordExact_bits rfl).reshape _ _) (View.wordExact_bits rfl)) fun _ => pure ⟨⟩ := by
  subst e1 e2 e3; rfl

theorem start_op  {β : Type} (K : PUnit → P F β)(A : Memref sig .tc .hbm S128x100000 .f32) (M : Memref sig .tc .vmem S3x8x100000 .f32) (v : DmaSems sig S3) (s : Fin 3) (b : Fin 16) (o1 : Fin 1 → Nat) (o2 : Fin 3 → Nat) (o3 : Fin 2 → Nat) (h1 : ∀ a, o1 a + S1.size a ≤ S3.size a) (h2 : ∀ a, o2 a + S1x8x100000.size a ≤ S3x8x100000.size a) (h3 : ∀ a, o3 a + S8x100000.size a ≤ S128x100000.size a) (e1 : o1 = ![s.val]) (e2 : o2 = ![s.val, 0, 0]) (e3 : o3 = ![8 * b.val, 0]) :
    (Prog.op (.enqueueDma (A.slice (Rect.unit (s := S128x100000) o3 S8x100000.size h3) (fun _ => rfl)) (.here ((M.slice (Rect.unit (s := S3x8x100000) o2 S1x8x100000.size h2) (fun _ => rfl)).squeeze S8x100000 squeezes_S1x8x100000_S8x100000)) (.dma ((v.slice (Rect.unit (s := S3) o1 S1.size h1)).squeeze S_ squeezes_S1_S_).sem) (View.wordExact_bits rfl) ((View.wordExact_bits rfl).reshape _ _) ⟨Or.inl rfl, trivial⟩) K : P F β)
      = .op (.enqueueDma (blk A b) (.here (rslot M s)) (.dma (rsem v s)) (View.wordExact_bits rfl) ((View.wordExact_bits rfl).reshape _ _) ⟨Or.inl rfl, trivial⟩) K := by
  subst e1 e2 e3; rfl

theorem wait_op  {β : Type} (K : PUnit → P F β)(A : Memref sig .tc .hbm S128x100000 .f32) (M : Memref sig .tc .vmem S2x8x100000 .f32) (v : DmaSems sig S2) (s : Fin 2) (b : Fin 16) (o1 : Fin 1 → Nat) (o2 : Fin 3 → Nat) (o3 : Fin 2 → Nat) (h1 : ∀ a, o1 a + S1.size a ≤ S2.size a) (h2 : ∀ a, o2 a + S1x8x100000.size a ≤ S2x8x100000.size a) (h3 : ∀ a, o3 a + S8x100000.size a ≤ S128x100000.size a) (e1 : o1 = ![s.val]) (e2 : o2 = ![s.val, 0, 0]) (e3 : o3 = ![8 * b.val, 0]) :
    (Prog.op (.waitDma2 ((v.slice (Rect.unit (s := S2) o1 S1.size h1)).squeeze S_ squeezes_S1_S_).sem ((M.slice (Rect.unit (s := S2x8x100000) o2 S1x8x100000.size h2) (fun _ => rfl)).squeeze S8x100000 squeezes_S1x8x100000_S8x100000) (A.slice (Rect.unit (s := S128x100000) o3 S8x100000.size h3) (fun _ => rfl)) ((View.wordExact_bits rfl).reshape _ _) (View.wordExact_bits rfl)) K : P F β)
      = .op (.waitDma2 (wsem v s) (wslot M s) (blk A b) ((View.wordExact_bits rfl).reshape _ _) (View.wordExact_bits rfl)) K := by
  subst e1 e2 e3; rfl

section Transfers

variable (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) (k : Fin k0_t1_loop.trips) (h1 : k0_chk1 k (w3 k) (w4 k) (w4 k) (w6 k) (w7 k))

theorem copyIn_eq (hk : k.val + 2 < 16) :
    copyIn (F := F) arg0 harg0 arg1 harg1 alloca halloca v0 alloca_0 halloca_0 v1 k (w3 k) (w4 k) (w4 k) (w6 k) (w7 k) h1
      = .op (.enqueueDma (blk arg0 (bk 16 (k.val + 2))) (.here (rslot alloca (sl 3 (k.val + 2)))) (.dma (rsem v0 (sl 3 (k.val + 2))))
          (View.wordExact_bits rfl) ((View.wordExact_bits rfl).reshape _ _) ⟨Or.inl rfl, trivial⟩) fun _ => pure ⟨⟩ := by
  unfold copyIn
  rw [dif_pos ((cond2_w k).mpr hk)]
  exact start_r _ _ _ _ _ _ _ _ _ _ _ (off6_w k hk) (off7_w k hk) (off8_w k hk)

theorem copyIn_eq_done (hk : ¬ k.val + 2 < 16) :
    copyIn (F := F) arg0 harg0 arg1 harg1 alloca halloca v0 alloca_0 halloca_0 v1 k (w3 k) (w4 k) (w4 k) (w6 k) (w7 k) h1 = pure ⟨⟩ := by
  unfold copyIn
  rw [dif_neg (fun h => hk ((cond2_w k).mp h))]

theorem waitIn_eq :
    waitIn (F := F) arg0 harg0 arg1 harg1 alloca halloca v0 alloca_0 halloca_0 v1 k (w3 k) (w4 k) (w4 k) (w6 k) (w7 k) h1
      = .op (.waitDma2 (rsem v0 (sl 3 k.val)) (blk arg0 (bk 16 k.val)) (rslot alloca (sl 3 k.val))
          (View.wordExact_bits rfl) ((View.wordExact_bits rfl).reshape _ _)) fun _ => pure ⟨⟩ := by
  unfold waitIn
  rw [dif_pos (cond3_w k)]
  exact wait_r _ _ _ _ _ _ _ _ _ _ _ (off9_w k) (off10_w k) (off11_w k)

theorem copyOut_eq :
    copyOut (F := F) arg0 harg0 arg1 harg1 alloca halloca v0 alloca_0 halloca_0 v1 k (w3 k) (w4 k) (w4 k) (w6 k) (w7 k) h1
      = .op (.enqueueDma (wslot alloca_0 (sl 2 k.val)) (.here (blk arg1 (bk 16 k.val))) (.dma (wsem v1 (sl 2 k.val)))
          ((View.wordExact_bits rfl).reshape _ _) (View.wordExact_bits rfl) ⟨Or.inl rfl, trivial⟩) fun _ => pure ⟨⟩ := by
  unfold copyOut
  rw [dif_pos (cond6_w k)]
  exact start_w _ _ _ _ _ _ _ _ _ _ _ (off14_w k) (off16_w k) (off15_w k)

theorem waitOut_eq (hk : 1 ≤ k.val) :
    waitOut (F := F) arg0 harg0 arg1 harg1 alloca halloca v0 alloca_0 halloca_0 v1 k (w3 k) (w4 k) (w4 k) (w6 k) (w7 k) h1
      = .op (.waitDma2 (wsem v1 (sl 2 (k.val + 1))) (wslot alloca_0 (sl 2 (k.val + 1))) (blk arg1 (bk 16 (k.val - 1)))
          ((View.wordExact_bits rfl).reshape _ _) (View.wordExact_bits rfl)) fun _ => pure ⟨⟩ := by
  unfold waitOut
  rw [dif_pos ((cond8_w k).mpr hk)]
  exact wait_w _ _ _ _ _ _ _ _ _ _ _ (off17_w k hk) (off19_w k hk) (off18_w k hk)

theorem waitOut_eq_none (hk : ¬ 1 ≤ k.val) :
    waitOut (F := F) arg0 harg0 arg1 harg1 alloca halloca v0 alloca_0 halloca_0 v1 k (w3 k) (w4 k) (w4 k) (w6 k) (w7 k) h1 = pure ⟨⟩ := by
  unfold waitOut
  rw [dif_neg (fun h => hk ((cond8_w k).mp h))]

end Transfers

end Cert.Proof.Body
-- ==== Proof.Ring.lean ====
module

public import proofs.«01_k».proof.Proof.BlockWp
public import proofs.«01_k».proof.Proof.Words
public import Idealize.ShloMosaic.Lib.Ring.WriteBehind

@[expose] public section

noncomputable section

/-! The two rings of slots, and one trip of the loop: from the rings before trip `k` to the rings before trip `k + 1`. -/

namespace Cert.Proof.Body

open Cert.KernelIdeal Cert.KernelIdeal.Facts₀ Cert.KernelIdeal.Facts
open Idealize.ShloMosaic Idealize.ShloMosaic.ValueIdx Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers
open Idealize.ShloMosaic.Ring
open Cert.Proof.Own

variable {F : FTy → Type} [FloatOps F] [Facts]

/-- The results' rows of the block `b` whose scores' rows are `X b`. -/
def rowsOf (X : Fin 16 → FVec F S8x100000 .f32) (b : Fin 16) : FVec F S8x100000 .f32 :=
  hotRows (winner (BitVec.ofNat 32 (b.val * 800000)) (X b))

section Rings

variable {Name : Type} [DecidableEq Name] {U : Type} [URA U] {Lvl : Type} [Preorder Lvl]

local notation "𝕄" => MT nD τ sig Unit (Elt F) Name U Lvl

variable (EC : UEmb Counters (MT nD τ sig Unit (Elt F) Name U Lvl)) (c : Dev nD)
variable (arg0 arg1 : Memref sig .tc .hbm S128x100000 .f32) (alloca : Memref sig .tc .vmem S3x8x100000 .f32) (v0 : DmaSems sig S3)
  (alloca_0 : Memref sig .tc .vmem S2x8x100000 .f32) (v1 : DmaSems sig S2) (X : Fin 16 → FVec F S8x100000 .f32)

/-- A memref held whole by the kernel's core at known contents. -/
abbrev held {sp : Space} (m : Memref sig .tc sp S8x100000 .f32) (Y : FVec F S8x100000 .f32) : sProp 𝕄 :=
  owns (Val := Elt F) (c.tc : Thread nD τ) m fullShare Y

/-- A block of the operand, at its rows. -/
abbrev homeR (b : Fin 16) : sProp 𝕄 := held c (blk arg0 b) (X b)
/-- The semaphore of a read slot, at rest. -/
abbrev cellR (s : Fin 3) : sProp 𝕄 := semVal ((c.tc : Thread nD τ), .dma (rsem v0 s)) 0
/-- A read slot at some contents. -/
abbrev slotR (s : Fin 3) (d : FVec F S8x100000 .f32) : sProp 𝕄 := held c (rslot alloca s) d
/-- A block on its way into a read slot. -/
abbrev flightR (s : Fin 3) (b : Fin 16) (_ : FVec F S8x100000 .f32) : sProp 𝕄 :=
  Flight EC (c.tc : Thread nD τ) (.dma (rsem v0 s)) () (rslot alloca s).view.dmaCredit
    iprop(held c (rslot alloca s) (X b) ∗ held c (blk arg0 b) (X b))

/-- A block of the result, not written yet. -/
abbrev aheadW (b : Fin 16) : sProp 𝕄 := iprop(∃ d : FVec F S8x100000 .f32, held c (blk arg1 b) d)
/-- A block of the result, written. -/
abbrev behindW (b : Fin 16) : sProp 𝕄 := held c (blk arg1 b) (rowsOf X b)
/-- A write slot and its semaphore at rest. -/
abbrev freeW (s : Fin 2) : sProp 𝕄 :=
  iprop(semVal ((c.tc : Thread nD τ), .dma (wsem v1 s)) 0 ∗ ∃ d : FVec F S8x100000 .f32, held c (wslot alloca_0 s) d)
/-- A write slot on its way out to its block of the result. -/
abbrev inflW (s : Fin 2) (b : Fin 16) : sProp 𝕄 :=
  Flight EC (c.tc : Thread nD τ) (.dma (wsem v1 s)) () (blk arg1 b).view.dmaCredit
    iprop(held c (blk arg1 b) (rowsOf X b) ∗ held c (wslot alloca_0 s) (rowsOf X b))

/-- The read ring before trip `k`. -/
abbrev readAt (k : ℕ) : sProp 𝕄 :=
  Ring.At 2 (cellR c v0) (slotR c alloca) (homeR c arg0 X) (flightR EC c arg0 alloca v0 X) k
/-- The write ring before trip `k`. -/
abbrev writeAt (k : ℕ) : sProp 𝕄 :=
  Ring.AtB 1 (freeW c alloca_0 v1) (inflW EC c arg1 alloca_0 v1 X) (aheadW c arg1) (behindW c arg1 X) k
/-- What the core owes between two operations: nothing, and some waits behind it. -/
abbrev owing : sProp 𝕄 := iprop(∃ W : Waits sig Unit, owes (c.tc : Thread nD τ) 0 W)

variable {defs : Defs nD τ sig (Elt F) Λ₀} (𝒱 : Variants) (bd : Option 𝒱.V)
variable [Infinite Name] [EC.LandsIn (upEmb : UEmb _ (MT nD τ sig Unit (Elt F) Name U Lvl))]

variable {harg0 : arg0.IsWhole} {harg1 : arg1.IsWhole} {halloca : alloca.IsWhole} {halloca_0 : alloca_0.IsWhole}
variable (k : Fin k0_t1_loop.trips) {h1 : k0_chk1 k (w3 k) (w4 k) (w4 k) (w6 k) (w7 k)}
variable {α : Type} {Q : α → sProp (MT nD τ sig Unit (Elt F) Name U Lvl)}

theorem trip_lt (k : Fin k0_t1_loop.trips) : k.val < 16 := k.isLt

/-- The read half of a trip: the next block is sent for, this trip's block arrives in its slot, and giving the slot back
    gives the read ring of the next trip. -/
theorem wp_read (hN : ∀ s, 0 < (rslot alloca s).view.dmaCredit) (K : P F α) :
    iprop(readAt EC c arg0 alloca v0 X k ∗ owing c)
      ⊢ iprop(((slotR c alloca (sl 3 k) (X (bk 16 k)) ∗ owing c
              ∗ (slotR c alloca (sl 3 k) (X (bk 16 k)) -∗ readAt EC c arg0 alloca v0 X (k + 1)))
            -∗ wp frame (wpE defs 𝒱 (c.tc : Thread nD τ) bd) Set.univ K Q)
        -∗ (wp frame (wpE defs 𝒱 (c.tc : Thread nD τ) bd) Set.univ
            ((copyIn (F := F) arg0 harg0 arg1 harg1 alloca halloca v0 alloca_0 halloca_0 v1 k (w3 k) (w4 k) (w4 k) (w6 k) (w7 k) h1).bind fun _ =>
              (waitIn (F := F) arg0 harg0 arg1 harg1 alloca halloca v0 alloca_0 halloca_0 v1 k (w3 k) (w4 k) (w4 k) (w6 k) (w7 k) h1).bind fun _ => K)
            Q : sProp 𝕄)) := by
  unfold readAt
  rw [waitIn_eq]
  by_cases hk : k.val + 2 < 16
  · rw [copyIn_eq (hk := hk), At3_here _ _ _ _ _ hk, At3_next _ _ _ _ _ hk]
    iintro ⟨⟨⟨Hh, Hhs⟩, ⟨%f0, Hf0⟩, Hf1, Hc, %d, Hd⟩, %W, HW⟩ HK
    iapply (wp_dma_owns (Val := Elt F) EC 𝒱 (c.tc : Thread nD τ) bd () (rslot alloca (sl 3 (k.val + 2))).view.dmaCredit rfl (hN _)) $$ [Hh Hd Hc]
    · isplitl [Hh]; · iexact Hh
      isplitl [Hd]; · iexact Hd
      iexact Hc
    iintro Hf2
    iapply (wp_waitLocal EC 𝒱 (c.tc : Thread nD τ) bd () rfl) $$ [Hf0 HW]
    · isplitl [Hf0]; · iexact Hf0
      iexact HW
    iintro ⟨⟨Hs, Hb⟩, Hc, HW⟩
    iapply HK
    isplitl [Hs]; · iexact Hs
    isplitl [HW]; · iexists _; iexact HW
    iintro Hs
    rw [slotAt3_next0 _ _ _ _ (by omega), slotAt3_next1 _ _ _ _ hk]
    isplitl [Hb Hhs]
    · isplitl [Hb]; · iexact Hb
      iexact Hhs
    isplitl [Hf1]; · iexact Hf1
    isplitl [Hf2]; · iexists f0; iexact Hf2
    isplitl [Hc]; · iexact Hc
    iexists _; iexact Hs
  · rw [copyIn_eq_done (hk := hk), At3_here_tail _ _ _ _ _ (trip_lt k), At3_next_tail _ _ _ _ _ (by omega) (trip_lt k)]
    iintro ⟨⟨Hhs, ⟨%f0, Hf0⟩, Hf1, Hfr⟩, %W, HW⟩ HK
    iapply (wp_waitLocal EC 𝒱 (c.tc : Thread nD τ) bd () rfl) $$ [Hf0 HW]
    · isplitl [Hf0]; · iexact Hf0
      iexact HW
    iintro ⟨⟨Hs, Hb⟩, Hc, HW⟩
    iapply HK
    isplitl [Hs]; · iexact Hs
    isplitl [HW]; · iexists _; iexact HW
    iintro Hs
    rw [slotAt3_tail_role]
    isplitl [Hb Hhs]
    · isplitl [Hb]; · iexact Hb
      iexact Hhs
    isplitl [Hf1]; · iexact Hf1
    isplitl [Hfr]; · iexact Hfr
    isplitl [Hc]; · iexact Hc
    iexists _; iexact Hs

/-- The write half of a trip, given the write slot at the block's result: it is sent out, the previous one has
    arrived, and the write ring is that of the next trip. -/
theorem wp_write (hN : ∀ b, 0 < (blk arg1 b).view.dmaCredit) (K : P F α) :
    (writeAt EC c arg1 alloca_0 v1 X k : sProp 𝕄)
      ⊢ iprop((∃ d : FVec F S8x100000 .f32, held c (wslot alloca_0 (sl 2 k)) d)
        ∗ (held c (wslot alloca_0 (sl 2 k)) (rowsOf X (bk 16 k)) -∗ owing c
          -∗ ((writeAt EC c arg1 alloca_0 v1 X (k + 1) ∗ owing c) -∗ wp frame (wpE defs 𝒱 (c.tc : Thread nD τ) bd) Set.univ K Q)
          -∗ wp frame (wpE defs 𝒱 (c.tc : Thread nD τ) bd) Set.univ
            ((copyOut (F := F) arg0 harg0 arg1 harg1 alloca halloca v0 alloca_0 halloca_0 v1 k (w3 k) (w4 k) (w4 k) (w6 k) (w7 k) h1).bind fun _ =>
              (waitOut (F := F) arg0 harg0 arg1 harg1 alloca halloca v0 alloca_0 halloca_0 v1 k (w3 k) (w4 k) (w4 k) (w6 k) (w7 k) h1).bind fun _ => K)
            Q)) := by
  unfold writeAt
  rw [copyOut_eq]
  by_cases hk : 1 ≤ k.val
  · rw [waitOut_eq (hk := hk), AtB21_here _ _ _ _ _ hk (trip_lt k), AtB21_next _ _ _ _ _ hk (trip_lt k)]
    iintro ⟨⟨⟨%d, Ha⟩, Has⟩, Hbs, ⟨Hc, Hd⟩, Hf⟩
    isplitl [Hd]; · iexact Hd
    iintro Hs ⟨%W, HW⟩ HK
    iapply (wp_dma_owns (Val := Elt F) EC 𝒱 (c.tc : Thread nD τ) bd () (blk arg1 (bk 16 k.val)).view.dmaCredit rfl (hN _)) $$ [Hs Ha Hc]
    · isplitl [Hs]; · iexact Hs
      isplitl [Ha]; · iexact Ha
      iexact Hc
    iintro Hf2
    iapply (wp_waitLocal EC 𝒱 (c.tc : Thread nD τ) bd () rfl) $$ [Hf HW]
    · isplitl [Hf]; · iexact Hf
      iexact HW
    iintro ⟨⟨Hb, Hs⟩, Hc, HW⟩
    iapply HK
    isplitr [HW]
    · isplitl [Has]; · iexact Has
      isplitl [Hb Hbs]
      · isplitl [Hb]; · iexact Hb
        iexact Hbs
      isplitl [Hc Hs]
      · isplitl [Hc]; · iexact Hc
        iexists _; iexact Hs
      iexact Hf2
    iexists _; iexact HW
  · have h0 : k.val = 0 := by omega
    rw [waitOut_eq_none (hk := hk), AtB2_zero' _ _ _ _ _ _ h0, AtB21_next_zero' _ _ _ _ _ h0]
    iintro ⟨⟨⟨%d, Ha⟩, Has⟩, ⟨Hc, Hd⟩, Hf⟩
    isplitl [Hd]; · iexact Hd
    iintro Hs HW HK
    iapply (wp_dma_owns (Val := Elt F) EC 𝒱 (c.tc : Thread nD τ) bd () (blk arg1 (bk 16 k.val)).view.dmaCredit rfl (hN _)) $$ [Hs Ha Hc]
    · isplitl [Hs]; · iexact Hs
      isplitl [Ha]; · iexact Ha
      iexact Hc
    iintro Hf2
    iapply HK
    isplitr [HW]
    · isplitl [Has]; · iexact Has
      isplitl [Hf]; · iexact Hf
      iexact Hf2
    iexact HW

theorem rslot_eq (s : Fin 3) (o : Fin 3 → Nat) (h : ∀ a, o a + S1x8x100000.size a ≤ S3x8x100000.size a) (e : o = ![s.val, 0, 0]) :
    (alloca.slice (Rect.unit (s := S3x8x100000) o S1x8x100000.size h) (fun _ => rfl)).squeeze S8x100000 squeezes_S1x8x100000_S8x100000
      = rslot alloca s := by
  subst e; rfl

theorem wslot_eq (s : Fin 2) (o : Fin 3 → Nat) (h : ∀ a, o a + S1x8x100000.size a ≤ S2x8x100000.size a) (e : o = ![s.val, 0, 0]) :
    (alloca_0.slice (Rect.unit (s := S2x8x100000) o S1x8x100000.size h) (fun _ => rfl)).squeeze S8x100000 squeezes_S1x8x100000_S8x100000
      = wslot alloca_0 s := by
  subst e; rfl

/-- The rings before trip `k`, and what the core owes. -/
abbrev inv (k : ℕ) : sProp 𝕄 :=
  iprop(readAt EC c arg0 alloca v0 X k ∗ writeAt EC c arg1 alloca_0 v1 X k ∗ owing c)

/-- One trip of the loop. -/
theorem wp_step (hNr : ∀ s, 0 < (rslot alloca s).view.dmaCredit) (hNw : ∀ b, 0 < (blk arg1 b).view.dmaCredit) :
    (inv EC c arg0 arg1 alloca v0 alloca_0 v1 X k : sProp 𝕄)
      ⊢ wp frame (wpE defs 𝒱 (c.tc : Thread nD τ) bd) Set.univ
          (step (F := F) arg0 harg0 arg1 harg1 alloca halloca v0 alloca_0 halloca_0 v1 0#32 1#32 k (w3 k) (w4 k) (w4 k) (w6 k) (w7 k))
          fun acc => iprop(⌜acc = (w3 (k + 1), w4 (k + 1), w4 (k + 1), w6 (k + 1), w7 (k + 1))⌝
            ∗ inv EC c arg0 arg1 alloca v0 alloca_0 v1 X (k + 1)) := by
  iintro ⟨HR, HW, HO⟩
  unfold step
  iapply (wp_assume 𝒱 (c.tc : Thread nD τ) bd Set.univ (chk3_w k))
  iapply (wp_assume 𝒱 (c.tc : Thread nD τ) bd Set.univ (chk2_w k))
  iapply (wp_assume 𝒱 (c.tc : Thread nD τ) bd Set.univ (chk1_w k))
  iapply (wp_read EC c arg0 arg1 alloca v0 alloca_0 v1 X 𝒱 bd k hNr) $$ [HR HO]
  · isplitl [HR]; · iexact HR
    iexact HO
  iintro ⟨Hs, HO, HR⟩
  ihave HW' := (wp_write EC c arg0 arg1 alloca v0 alloca_0 v1 X 𝒱 bd k hNw _) $$ HW
  icases HW' with ⟨⟨%d, Hd⟩, HW⟩
  rw [rslot_eq alloca (sl 3 k) _ _ (off12_w k), wslot_eq alloca_0 (sl 2 k) _ _ (off13_w k), block_w k]
  iapply (wp_block 𝒱 c bd (BitVec.ofNat 32 (k * 800000)) (rslot alloca (sl 3 k)) (wslot alloca_0 (sl 2 k)) (X (bk 16 k)) d) $$ [Hs Hd]
  · isplitl [Hs]; · iexact Hs
    iexact Hd
  iintro ⟨Hs, Hd⟩
  have e : hotRows (winner (BitVec.ofNat 32 (k * 800000)) (X (bk 16 k))) = rowsOf X (bk 16 k) := by
    unfold rowsOf
    rw [bk_val (trip_lt k)]
  rw [e]
  iapply HW $$ Hd HO
  iintro ⟨HW, HO⟩
  rw [wp_pure]
  imodintro
  isplitr; · ipureintro; exact next_w k
  isplitl [HR Hs]
  · iapply HR; iexact Hs
  isplitl [HW]; · iexact HW
  iexact HO

end Rings

end Cert.Proof.Body
-- ==== Proof.Pieces.lean ====
module

public import proofs.«01_k».proof.Proof.Ring

@[expose] public section

noncomputable section

/-! The buffers cut into the blocks and the slots the two rings work on, and joined again. -/

namespace Cert.Proof.Body

open Cert.KernelIdeal Cert.KernelIdeal.Facts₀ Cert.KernelIdeal.Facts
open Idealize.ShloMosaic Idealize.ShloMosaic.ValueIdx Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Ring
open Cert.Proof.Own

section Generic

variable {nD : ℕ} {τ : Topo} {sig : RefSig} {Val : EltTy → Type} {Ix : Type} [DecidableEq Ix] {Name : Type} [DecidableEq Name]
variable {U : Type} [URA U] {Lvl : Type} [Preorder Lvl] [∀ e, Nonempty (Val e)]

local notation "𝕄" => MT nD τ sig Ix Val Name U Lvl

variable (c : Thread nD τ) {sp : Space} {sh : Shape} {e : EltTy} (m : Memref sig c.2.kind sp sh e) (q : PosShare TreeShare)

/-- A memref at some contents is its squeezed form at some contents; -/
theorem owns_squeeze (s' : Shape) (h : sh.Squeezes s') (Z : sh.Idx → Val e) :
    (owns c m q Z : sProp 𝕄) ⊢ iprop(∃ d, owns c (m.squeeze s' h) q d) := by
  unfold owns
  iintro ⟨%g, -, H⟩
  iexists (m.squeeze s' h).view.read Val g
  iexists g
  isplitr; · ipureintro; rfl
  rw [show (m.squeeze s' h).view.set = m.view.set from View.set_reshape (v := m.view) h.numel_eq]
  iexact H

/-- and back. -/
theorem owns_of_squeeze (s' : Shape) (h : sh.Squeezes s') :
    (iprop(∃ d, owns c (m.squeeze s' h) q d) : sProp 𝕄) ⊢ iprop(∃ Z, owns c m q Z) := by
  unfold owns
  iintro ⟨%d, %g, -, H⟩
  iexists m.view.read Val g
  iexists g
  isplitr; · ipureintro; rfl
  rw [show (m.squeeze s' h).view.set = m.view.set from View.set_reshape (v := m.view) h.numel_eq]
  iexact H

variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov in
omit [DecidableEq T] in
/-- Contents given rectangle by rectangle are contents of the whole. -/
theorem exists_glued {α : Type} (Zs : (t : T) → (r t).shape.Idx → α) : ∃ X : sh.Idx → α, ∀ t j, X ((r t).emb j) = Zs t j := by
  have hx : ∀ x, ∃ z, ∀ t j, (r t).emb j = x → Zs t j = z := by
    intro x
    obtain ⟨t₀, -, hx⟩ := Finset.mem_biUnion.mp (hcov.symm ▸ Finset.mem_univ x)
    rw [← Rect.map_emb_univ, Finset.mem_map] at hx
    obtain ⟨j₀, -, rfl⟩ := hx
    refine ⟨Zs t₀ j₀, fun t j h => ?_⟩
    by_cases ht : t = t₀
    · subst ht
      rw [(r t).emb.injective h]
    · exact absurd (h ▸ (r t₀).map_emb_univ ▸ Finset.mem_map_of_mem _ (Finset.mem_univ j₀) : (r t).emb j ∈ (r t₀).set)
        (Finset.disjoint_left.mp (hd t t₀ ht) ((r t).map_emb_univ ▸ Finset.mem_map_of_mem _ (Finset.mem_univ j)))
  choose X hX using hx
  exact ⟨X, fun t j => (hX _ t j rfl).symm⟩

variable (s' : Shape) (hq : ∀ t, (r t).shape.Squeezes s')

include hd hcov in
omit [DecidableEq T] in
/-- A memref at some contents is its slots, each at some contents; -/
theorem slots_split :
    iprop(∃ X, owns c m q X)
      ⊢ (bigSep Finset.univ fun t => iprop(∃ d, owns c ((m.slice (r t) (hr t)).squeeze s' (hq t)) q d) : sProp 𝕄) := by
  iintro ⟨%X, H⟩
  iapply ((owns_rects c m q r hr hd hcov X).trans (BI.bigSep_mono fun t _ => owns_squeeze c (m.slice (r t) (hr t)) q s' (hq t) _))
  iexact H

include hd hcov in
/-- and back. -/
theorem slots_join :
    (bigSep Finset.univ fun t => iprop(∃ d, owns c ((m.slice (r t) (hr t)).squeeze s' (hq t)) q d) : sProp 𝕄)
      ⊢ iprop(∃ X, owns c m q X) := by
  have h1 : (bigSep Finset.univ fun t => iprop(∃ d, owns c ((m.slice (r t) (hr t)).squeeze s' (hq t)) q d) : sProp 𝕄)
      ⊢ bigSep Finset.univ fun t => iprop(∃ Z, owns c (m.slice (r t) (hr t)) q Z) :=
    BI.bigSep_mono fun t _ => owns_of_squeeze c (m.slice (r t) (hr t)) q s' (hq t)
  refine h1.trans ((BI.bigSep_exists_pi Finset.univ _).trans ?_)
  iintro ⟨%Zs, H⟩
  obtain ⟨X, hX⟩ := exists_glued r hd hcov Zs
  iexists X
  iapply (owns_of_rects c m q r hr hd hcov X)
  rw [show (fun t => (owns c (m.slice (r t) (hr t)) q fun j => X ((r t).emb j) : sProp 𝕄))
    = fun t => owns c (m.slice (r t) (hr t)) q (Zs t) from funext fun t => congrArg _ (funext fun j => hX t j)]
  iexact H

end Generic

/-! ## The blocks of the rows and the slots of the rings -/

theorem blk_disjoint (b b' : Fin 16) (h : b ≠ b') :
    Disjoint (Rect.unit (s := S128x100000) ![8 * b.val, 0] S8x100000.size (inb_blk b)).set
      (Rect.unit (s := S128x100000) ![8 * b'.val, 0] S8x100000.size (inb_blk b')).set :=
  Ring.lead_disjoint (s := S128x100000) 0 8 (fun b : Fin 16 => ![8 * b.val, 0]) S8x100000.size inb_blk (fun _ => rfl) rfl b b' h

theorem blk_cover :
    Finset.univ.biUnion (fun b : Fin 16 => (Rect.unit (s := S128x100000) ![8 * b.val, 0] S8x100000.size (inb_blk b)).set) = Finset.univ :=
  Ring.lead_cover (s := S128x100000) 0 8 (fun b : Fin 16 => ![8 * b.val, 0]) S8x100000.size inb_blk (fun _ => rfl)
    (fun b a h => by fin_cases a <;> first | exact absurd rfl h | rfl) rfl (fun a h => by fin_cases a <;> first | exact absurd rfl h | rfl) (by decide)

theorem rslot_disjoint (b b' : Fin 3) (h : b ≠ b') :
    Disjoint (Rect.unit (s := S3x8x100000) ![b.val, 0, 0] S1x8x100000.size (inb_rslot b)).set
      (Rect.unit (s := S3x8x100000) ![b'.val, 0, 0] S1x8x100000.size (inb_rslot b')).set :=
  Ring.lead_disjoint (s := S3x8x100000) 0 1 (fun b : Fin 3 => ![b.val, 0, 0]) S1x8x100000.size inb_rslot (fun b => (Nat.one_mul b.val).symm) rfl b b' h

theorem rslot_cover :
    Finset.univ.biUnion (fun b : Fin 3 => (Rect.unit (s := S3x8x100000) ![b.val, 0, 0] S1x8x100000.size (inb_rslot b)).set) = Finset.univ :=
  Ring.lead_cover (s := S3x8x100000) 0 1 (fun b : Fin 3 => ![b.val, 0, 0]) S1x8x100000.size inb_rslot (fun b => (Nat.one_mul b.val).symm)
    (fun b a h => by fin_cases a <;> first | exact absurd rfl h | rfl) rfl (fun a h => by fin_cases a <;> first | exact absurd rfl h | rfl) (by decide)

theorem wslot_disjoint (b b' : Fin 2) (h : b ≠ b') :
    Disjoint (Rect.unit (s := S2x8x100000) ![b.val, 0, 0] S1x8x100000.size (inb_wslot b)).set
      (Rect.unit (s := S2x8x100000) ![b'.val, 0, 0] S1x8x100000.size (inb_wslot b')).set :=
  Ring.lead_disjoint (s := S2x8x100000) 0 1 (fun b : Fin 2 => ![b.val, 0, 0]) S1x8x100000.size inb_wslot (fun b => (Nat.one_mul b.val).symm) rfl b b' h

theorem wslot_cover :
    Finset.univ.biUnion (fun b : Fin 2 => (Rect.unit (s := S2x8x100000) ![b.val, 0, 0] S1x8x100000.size (inb_wslot b)).set) = Finset.univ :=
  Ring.lead_cover (s := S2x8x100000) 0 1 (fun b : Fin 2 => ![b.val, 0, 0]) S1x8x100000.size inb_wslot (fun b => (Nat.one_mul b.val).symm)
    (fun b a h => by fin_cases a <;> first | exact absurd rfl h | rfl) rfl (fun a h => by fin_cases a <;> first | exact absurd rfl h | rfl) (by decide)

variable {F : FTy → Type} [FloatOps F] [Facts]

/-- The rows of the block `b` of an array. -/
def rowBlock (A : FVec F S128x100000 .f32) (b : Fin 16) : FVec F S8x100000 .f32 :=
  fun j => A ((Rect.unit (s := S128x100000) ![8 * b.val, 0] S8x100000.size (inb_blk b)).emb j)

theorem blkOf_lt (i : S128x100000.Idx) : (i 0).val / 8 < 16 :=
  (Nat.div_lt_iff_lt_mul (by norm_num)).mpr (i 0).isLt

/-- The array whose blocks are `Y`. -/
def glue (Y : Fin 16 → FVec F S8x100000 .f32) : FVec F S128x100000 .f32 := fun i =>
  Y ⟨(i 0).val / 8, blkOf_lt i⟩ (ix2 (n0 := 8) (n1 := 100000) ⟨(i 0).val % 8, Nat.mod_lt _ (by norm_num)⟩ (i 1))

theorem glue_emb (Y : Fin 16 → FVec F S8x100000 .f32) (b : Fin 16) (j : S8x100000.Idx) :
    glue Y ((Rect.unit (s := S128x100000) ![8 * b.val, 0] S8x100000.size (inb_blk b)).emb j) = Y b j := by
  have hj : (j 0).val < 8 := (j 0).isLt
  have e0 : ((Rect.unit (s := S128x100000) ![8 * b.val, 0] S8x100000.size (inb_blk b)).emb j 0).val = 8 * b.val + (j 0).val := by
    show 8 * b.val + 1 * (j 0).val = _
    omega
  have e1 : ((Rect.unit (s := S128x100000) ![8 * b.val, 0] S8x100000.size (inb_blk b)).emb j 1).val = (j 1).val := by
    show 0 + 1 * (j 1).val = _
    omega
  unfold glue
  refine congrArg₂ Y (Fin.ext ?_) (funext fun a => Fin.ext ?_)
  · show ((Rect.unit (s := S128x100000) ![8 * b.val, 0] S8x100000.size (inb_blk b)).emb j 0).val / 8 = b.val
    omega
  · fin_cases a
    · show ((Rect.unit (s := S128x100000) ![8 * b.val, 0] S8x100000.size (inb_blk b)).emb j 0).val % 8 = (j 0).val
      omega
    · exact e1

section Pieces

variable {Name : Type} [DecidableEq Name] {U : Type} [URA U] {Lvl : Type} [Preorder Lvl]

local notation "𝕄" => MT nD τ sig Unit (Elt F) Name U Lvl

variable (c : Dev nD)

/-- The operand is its sixteen blocks; -/
theorem blocks_split (b : Memref sig .tc .hbm S128x100000 .f32) (A : FVec F S128x100000 .f32) :
    (owns (Val := Elt F) (c.tc : Thread nD τ) b fullShare A : sProp 𝕄) ⊢ bigSep Finset.univ (homeR c b (rowBlock A)) :=
  owns_rects (Val := Elt F) (c.tc : Thread nD τ) b fullShare _ (fun _ _ => rfl) blk_disjoint blk_cover A

/-- and back. -/
theorem blocks_join (b : Memref sig .tc .hbm S128x100000 .f32) (A : FVec F S128x100000 .f32) :
    (bigSep Finset.univ (homeR c b (rowBlock A)) : sProp 𝕄) ⊢ owns (Val := Elt F) (c.tc : Thread nD τ) b fullShare A :=
  owns_of_rects (Val := Elt F) (c.tc : Thread nD τ) b fullShare _ (fun _ _ => rfl) blk_disjoint blk_cover A

theorem homeR_ahead (b : Memref sig .tc .hbm S128x100000 .f32) (X : Fin 16 → FVec F S8x100000 .f32) (t : Fin 16) :
    (homeR c b X t : sProp 𝕄) ⊢ aheadW c b t := by
  unfold aheadW
  iintro H
  iexists _
  iexact H

/-- The result at any contents is its sixteen blocks at any contents; -/
theorem ahead_split (b : Memref sig .tc .hbm S128x100000 .f32) (A : FVec F S128x100000 .f32) :
    (owns (Val := Elt F) (c.tc : Thread nD τ) b fullShare A : sProp 𝕄) ⊢ bigSep Finset.univ (aheadW c b) :=
  (blocks_split c b A).trans (BI.bigSep_mono fun t _ => homeR_ahead c b _ t)

/-- and the written blocks are the result at the array they make up. -/
theorem behind_join (b : Memref sig .tc .hbm S128x100000 .f32) (X : Fin 16 → FVec F S8x100000 .f32) :
    (bigSep Finset.univ (behindW c b X) : sProp 𝕄) ⊢ owns (Val := Elt F) (c.tc : Thread nD τ) b fullShare (glue (rowsOf X)) := by
  refine Entails.trans (Entails.of_eq ?_) (blocks_join c b (glue (rowsOf X)))
  exact congrArg _ (funext fun t => congrArg _ (funext fun j => (glue_emb (rowsOf X) t j).symm))

end Pieces

end Cert.Proof.Body
-- ==== Proof.Outer.lean ====
module

public import proofs.«01_k».proof.Proof.Ring
public import proofs.«01_k».proof.Proof.Raw
public import proofs.«01_k».proof.Proof.Eq

@[expose] public section

noncomputable section

/-! The kernel's body: the first two transfers, the sixteen trips and the last wait. -/

namespace Cert.Proof.Body

open Cert.KernelIdeal Cert.KernelIdeal.Facts₀ Cert.KernelIdeal.Facts
open Idealize.ShloMosaic Idealize.ShloMosaic.ValueIdx Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers
open Idealize.ShloMosaic.Ring
open Cert.Proof.Own

variable {F : FTy → Type} [FloatOps F] [Facts]

/-- The first transfer: block 0 to slot 0. -/
theorem first_eq (arg0 : Memref sig .tc .hbm S128x100000 .f32) (harg0 : arg0.IsWhole) (arg1 : Memref sig .tc .hbm S128x100000 .f32) (harg1 : arg1.IsWhole) (alloca : Memref sig .tc .vmem S3x8x100000 .f32) (halloca : alloca.IsWhole) (v0 : DmaSems sig S3) (alloca_0 : Memref sig .tc .vmem S2x8x100000 .f32) (halloca_0 : alloca_0.IsWhole) (v1 : DmaSems sig S2) :
    k0_part880 (F := F) arg0 harg0 arg1 harg1 alloca halloca v0 alloca_0 halloca_0 v1
      = .op (.enqueueDma (blk arg0 (bk 16 0)) (.here (rslot alloca (sl 3 0))) (.dma (rsem v0 (sl 3 0))) (View.wordExact_bits rfl) ((View.wordExact_bits rfl).reshape _ _) ⟨Or.inl rfl, trivial⟩) fun _ => pure ⟨1#32, 1#32, 1#1⟩ :=
  start_op _ _ _ _ _ _ _ _ _ _ _ _ off1_w off2_w (by decide)

section Rings

variable {Name : Type} [DecidableEq Name] {U : Type} [URA U] {Lvl : Type} [Preorder Lvl]

local notation "𝕄" => MT nD τ sig Unit (Elt F) Name U Lvl

variable (EC : UEmb Counters (MT nD τ sig Unit (Elt F) Name U Lvl)) (c : Dev nD)
variable (arg0 arg1 : Memref sig .tc .hbm S128x100000 .f32) (alloca : Memref sig .tc .vmem S3x8x100000 .f32) (v0 : DmaSems sig S3)
  (alloca_0 : Memref sig .tc .vmem S2x8x100000 .f32) (v1 : DmaSems sig S2) (X : Fin 16 → FVec F S8x100000 .f32)

variable {defs : Defs nD τ sig (Elt F) Λ₀} (𝒱 : Variants) (bd : Option 𝒱.V)
variable [Infinite Name] [EC.LandsIn (upEmb : UEmb _ (MT nD τ sig Unit (Elt F) Name U Lvl))]

variable {harg0 : arg0.IsWhole} {harg1 : arg1.IsWhole} {halloca : alloca.IsWhole} {halloca_0 : alloca_0.IsWhole}
variable {α : Type} {Q : α → sProp (MT nD τ sig Unit (Elt F) Name U Lvl)}

/-- The invariant of the loop: before trip `k` the carried words are those of trip `k`, and the rings stand before it. -/
abbrev loopInv (k : ℕ) (acc : BitVec 32 × BitVec 32 × BitVec 32 × BitVec 32 × BitVec 32) : sProp 𝕄 :=
  iprop(⌜acc = (w3 k, w4 k, w4 k, w6 k, w7 k)⌝ ∗ inv EC c arg0 arg1 alloca v0 alloca_0 v1 X k)

/-- From block 0 on its way in: block 1 is sent for, and the sixteen trips leave the rings after the last. -/
theorem wp_loop (hNr : ∀ s, 0 < (rslot alloca s).view.dmaCredit) (hNw : ∀ b, 0 < (blk arg1 b).view.dmaCredit) (d0 : FVec F S8x100000 .f32) (v9 : BitVec 32) :
    iprop((homeR c arg0 X (bk 16 1) ∗ (homeR c arg0 X (bk 16 2) ∗ bigSep ((homeSet 2 0).erase (bk 16 2)) (homeR c arg0 X)))
        ∗ flightR EC c arg0 alloca v0 X (sl 3 0) (bk 16 0) d0 ∗ Ring.free (cellR c v0) (slotR c alloca) (sl 3 1) ∗ Ring.free (cellR c v0) (slotR c alloca) (sl 3 2)
        ∗ writeAt EC c arg1 alloca_0 v1 X 0 ∗ owing c)
      ⊢ (wp frame (wpE defs 𝒱 (c.tc : Thread nD τ) bd) Set.univ
          (k0_part881 (F := F) arg0 harg0 arg1 harg1 alloca halloca v0 alloca_0 halloca_0 v1 v9 1#32 1#1)
          fun r => iprop(⌜r.1 = w6 16 ∧ r.2.1 = w7 16⌝ ∗ inv EC c arg0 arg1 alloca v0 alloca_0 v1 X 16) : sProp 𝕄) := by
  rw [rawOuter_eq]
  unfold rawOuter
  rw [dif_pos cond1_w]
  show _ ⊢ wp frame _ _ (Prog.op _ _) _
  rw [start_op _ _ _ _ _ _ _ _ _ _ _ _ off3_w off4_w off5_w]
  iintro ⟨⟨H1, Hh⟩, Hf0, ⟨Hc1, %d1, Hd1⟩, Hfr2, HW, HO⟩
  iapply (wp_dma_owns (Val := Elt F) EC 𝒱 (c.tc : Thread nD τ) bd () (rslot alloca (sl 3 1)).view.dmaCredit rfl (hNr _)) $$ [H1 Hd1 Hc1]
  · isplitl [H1]; · iexact H1
    isplitl [Hd1]; · iexact Hd1
    iexact Hc1
  iintro Hf1
  iapply (Scf.wp_for_bind frame (wpE defs 𝒱 (c.tc : Thread nD τ) bd) Set.univ k0_t1_loop.lb k0_t1_loop.ub k0_t1_loop.st k0_t1_ok _ _
    (loopInv EC c arg0 arg1 alloca v0 alloca_0 v1 X) ?_) $$ [Hh Hf0 Hf1 Hfr2 HW HO]
  · intro k acc
    iintro ⟨%e, H⟩
    subst e
    have h := wp_step (bd := bd) (harg0 := harg0) (harg1 := harg1) (halloca := halloca) (halloca_0 := halloca_0) EC c arg0 arg1 alloca v0 alloca_0 v1 X 𝒱 k hNr hNw (defs := defs)
    rw [← trip_eq_step, ← trip_eq] at h
    iapply h
    iexact H
  · isplitr; · ipureintro; rfl
    isplitl [Hh Hf0 Hf1 Hfr2]
    · unfold readAt
      rw [At3_here _ _ _ _ 0 (by norm_num)]
      isplitl [Hh]; · iexact Hh
      isplitl [Hf0]; · iexists _; iexact Hf0
      isplitl [Hf1]; · iexists d1; iexact Hf1
      iexact Hfr2
    isplitl [HW]; · iexact HW
    iexact HO
  · iintro %acc
    have e16 : Scf.trips k0_t1_loop.lb k0_t1_loop.ub k0_t1_loop.st = 16 := by decide
    rw [e16]
    iintro ⟨%e, H⟩
    subst e
    iapply (wp_assume 𝒱 (c.tc : Thread nD τ) bd Set.univ chk5_w)
    iapply (wp_assume 𝒱 (c.tc : Thread nD τ) bd Set.univ chk4_w)
    simp only [Prog.bind]
    rw [wp_pure]
    imodintro
    isplitr; · ipureintro; exact ⟨rfl, rfl⟩
    iexact H

include EC in
/-- The last wait: the last block of the result has arrived. -/
theorem wp_last (h5 : k0_chk5 (w7 16)) (h4 : k0_chk4 (w6 16)) (K : PUnit → P F α) :
    iprop(inflW EC c arg1 alloca_0 v1 X (sl 2 (16 + 1)) (bk 16 (16 - 1)) ∗ owing c)
      ⊢ iprop(((behindW c arg1 X (bk 16 (16 - 1)) ∗ freeW c alloca_0 v1 (sl 2 (16 + 1)) ∗ owing c)
            -∗ wp frame (wpE defs 𝒱 (c.tc : Thread nD τ) bd) Set.univ (K ⟨⟩) Q)
        -∗ (wp frame (wpE defs 𝒱 (c.tc : Thread nD τ) bd) Set.univ
          (.op (.waitDma2 ((v1.slice (Rect.unit (s := S2) (k0_off20 (w6 16)) S1.size (k0_off20_inb (w6 16) h4))).squeeze S_ squeezes_S1_S_).sem
            ((alloca_0.slice (Rect.unit (s := S2x8x100000) (k0_off22 (w6 16)) S1x8x100000.size (k0_off22_inb (w6 16) h4)) (fun _ => rfl)).squeeze S8x100000 squeezes_S1x8x100000_S8x100000)
            (arg1.slice (Rect.unit (s := S128x100000) (k0_off21 (w7 16)) S8x100000.size (k0_off21_inb (w7 16) h5)) (fun _ => rfl))
            ((View.wordExact_bits rfl).reshape _ _) (View.wordExact_bits rfl)) K) Q : sProp 𝕄)) := by
  rw [wait_op _ _ _ _ _ _ _ _ _ _ _ _ off20_w off22_w off21_w]
  iintro ⟨Hf, %W, HO⟩ HK
  iapply (wp_waitLocal EC 𝒱 (c.tc : Thread nD τ) bd () rfl) $$ [Hf HO]
  · isplitl [Hf]; · iexact Hf
    iexact HO
  iintro ⟨⟨Hb, Hs⟩, Hc, HO⟩
  iapply HK
  isplitl [Hb]; · iexact Hb
  isplitl [Hc Hs]
  · isplitl [Hc]; · iexact Hc
    iexists _; iexact Hs
  iexists _; iexact HO

include EC in
/-- The kernel's body: from every block of the operand at its rows and every slot free to every block of the result at
    its one-hot rows, the operand kept and the slots free again. -/
theorem wp_outer (hNr : ∀ s, 0 < (rslot alloca s).view.dmaCredit) (hNw : ∀ b, 0 < (blk arg1 b).view.dmaCredit) :
    iprop(Ring.At₀ (cellR c v0) (slotR c alloca) (homeR c arg0 X) ∗ Ring.AtB₀ (freeW c alloca_0 v1) (aheadW c arg1) ∗ owing c)
      ⊢ (wp frame (wpE defs 𝒱 (c.tc : Thread nD τ) bd) Set.univ (cc0__outer (F := F) arg0 harg0 arg1 harg1 alloca halloca v0 alloca_0 halloca_0 v1)
          fun _ => iprop((bigSep Finset.univ (homeR c arg0 X) ∗ Ring.free (cellR c v0) (slotR c alloca) 0
              ∗ Ring.free (cellR c v0) (slotR c alloca) 1 ∗ Ring.free (cellR c v0) (slotR c alloca) 2)
            ∗ Ring.AtBEnd (freeW c alloca_0 v1) (behindW c arg1 X) ∗ owing c) : sProp 𝕄) := by
  have hopen := Entails.of_eq (AtB21_end' (M := 𝕄) (NB := 16) (freeW c alloca_0 v1) (inflW EC c arg1 alloca_0 v1 X) (aheadW c arg1) (behindW c arg1 X) 16 rfl (by norm_num))
  have hclose := Entails.of_eq (AtB21_epilogue' (M := 𝕄) (NB := 16) (freeW c alloca_0 v1) (behindW c arg1 X) 16 rfl (by norm_num)).symm
  unfold cc0__outer
  rw [first_eq, At₀_eq3 _ _ _ (by norm_num), ← AtB_zero 1 (freeW c alloca_0 v1) (inflW EC c arg1 alloca_0 v1 X) (aheadW c arg1) (behindW c arg1 X)]
  show _ ⊢ wp frame _ _ (Prog.op _ fun _ => k0_part881 (F := F) arg0 harg0 arg1 harg1 alloca halloca v0 alloca_0 halloca_0 v1 1#32 1#32 1#1 >>= _) _
  iintro ⟨⟨⟨H0, Hh⟩, ⟨Hc0, %d0, Hd0⟩, Hfr1, Hfr2⟩, HW, HO⟩
  iapply (wp_dma_owns (Val := Elt F) EC 𝒱 (c.tc : Thread nD τ) bd () (rslot alloca (sl 3 0)).view.dmaCredit rfl (hNr _)) $$ [H0 Hd0 Hc0]
  · isplitl [H0]; · iexact H0
    isplitl [Hd0]; · iexact Hd0
    iexact Hc0
  iintro Hf0
  rw [wp_bind]
  iapply (wp_wand_r frame (wpE defs 𝒱 (c.tc : Thread nD τ) bd) Set.univ)
  isplitl [Hh Hf0 Hfr1 Hfr2 HW HO]
  · iapply (wp_loop EC c arg0 arg1 alloca v0 alloca_0 v1 X 𝒱 bd hNr hNw d0 _)
    isplitl [Hh]; · iexact Hh
    isplitl [Hf0]; · iexact Hf0
    isplitl [Hfr1]; · iexact Hfr1
    isplitl [Hfr2]; · iexact Hfr2
    isplitl [HW]; · iexact HW
    iexact HO
  iintro %r ⟨%e, HR, HW, HO⟩
  obtain ⟨r1, r2, h5, h4, r3, r4, r5⟩ := r
  obtain ⟨e1, e2⟩ := e
  change r1 = _ at e1
  change r2 = _ at e2
  subst e1 e2
  ihave HW' := hopen $$ HW
  icases HW' with ⟨Hbs, Hfr, Hf⟩
  iapply (wp_last EC c arg1 alloca_0 v1 X 𝒱 bd h5 h4) $$ [Hf HO]
  · isplitl [Hf]; · iexact Hf
    iexact HO
  iintro ⟨Hb, Hfr', HO⟩
  simp only [Prog.bind]
  rw [wp_pure]
  imodintro
  isplitl [HR]
  · iapply (free3_of_At_last (NB := 16)) $$ HR
  isplitr [HO]
  · iapply hclose
    isplitl [Hb Hbs]
    · isplitl [Hb]; · iexact Hb
      iexact Hbs
    isplitl [Hfr]; · iexact Hfr
    iexact Hfr'
  iexact HO

end Rings

end Cert.Proof.Body
-- ==== Proof.Run.lean ====
module

public import proofs.«01_k».proof.Proof.Pieces
public import proofs.«01_k».proof.Proof.Outer
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.Routed
public import Idealize.ShloMosaic.Lib.Ring
public import Idealize.ShloMosaic.Lib.Tactic

@[expose] public section

noncomputable section

/-! The kernel's run: every execution ends with the operand unchanged, every semaphore at zero and the result at the
one-hot rows of its winning columns. -/

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Transfers
open Cert.Proof.Body Cert.Proof.Own

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The core's buffers as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's own semaphores: the read ring's three and the write ring's two. -/
abbrev osem0 : Fin 5 → SemLoc sig := fun j =>
  (![SemLoc.dma (rsem cc0_scoped1 0), SemLoc.dma (rsem cc0_scoped1 1), SemLoc.dma (rsem cc0_scoped1 2),
    SemLoc.dma (wsem cc0_scoped3 0), SemLoc.dma (wsem cc0_scoped3 1)] : Fin 5 → SemLoc sig) j

theorem ownSemFacts0 : Pipeline.OwnSemFacts cfg0.spec osem0 := by decide

theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c.tc : Thread nD τ), .dma (rsem cc0_scoped1 0)) 0 ∗ semVal ((c.tc : Thread nD τ), .dma (rsem cc0_scoped1 1)) 0
        ∗ semVal ((c.tc : Thread nD τ), .dma (rsem cc0_scoped1 2)) 0 ∗ semVal ((c.tc : Thread nD τ), .dma (wsem cc0_scoped3 0)) 0
        ∗ semVal ((c.tc : Thread nD τ), .dma (wsem cc0_scoped3 1)) 0) := by
  rw [Pipeline.ownSems0_eq_of_list c osem0 [0, 1, 2, 3, 4] (by decide) (by decide)]; rfl

/-- The buffer read in place, -/
def H0 : Finset (Ref sig .tc) := {main_arg0}
/-- and the buffer written in place. -/
def R0 : Finset (Ref sig .tc) := {main_v0}

theorem H0_sub : H0 ⊆ Pipeline.restRefs sig cfg0.spec := by decide
theorem R0_sub : R0 ⊆ Pipeline.restRefs sig cfg0.spec \ H0 := by decide

/-- What the kernel writes, as a function of its operand. -/
def result (A : FVec F S128x100000 .f32) : FVec F S128x100000 .f32 := glue (rowsOf (rowBlock A))

/-- The core's buffers after the run: the result at `result`. -/
def G (c : Dev nD) (b : Ref sig .tc) : Buf (Elt F) ((c : Thread nD τ).loc b) :=
  if h : b = main_v0 then h ▸ (result (V m c main_arg0) : Buf (Elt F) ((c : Thread nD τ).loc main_v0)) else V m c b

theorem G_v0 (c : Dev nD) : G m c main_v0 = (result (V m c main_arg0) : Buf (Elt F) ((c : Thread nD τ).loc main_v0)) := by
  unfold G; rw [dif_pos rfl]

/-- The proof's data: no window; the invariant is the buffers as launched before the one point, as written after it. -/
def dats (_ : Fin 1) (c : Dev nD) : Dat τ (Elt F) Unit ℕ (Pipeline.UD sig nD τ) ℕ cfg0 c where
  A w := V m c (Pipeline.arrRef cfg0.spec w)
  after w := Fin.elim0 w
  Φ p := if p.val = 0 then Pipeline.ΦDRG osem0 cfg0.spec H0 R0 (V m) (V m) c else Pipeline.ΦDRG osem0 cfg0.spec H0 R0 (V m) (G m) c
  q _ := fullShare
  owed _ := 0

theorem Phi_before (c : Dev nD) (t : Fin (cfg0.N + 1)) (h : t.val = 0) :
    (dats (F := F) m 0 c).Φ t = Pipeline.ΦDRG osem0 cfg0.spec H0 R0 (V m) (V m) c := by
  show (if t.val = 0 then _ else _) = _
  rw [if_pos h]

theorem Phi_after (c : Dev nD) (t : Fin (cfg0.N + 1)) (h : t.val ≠ 0) :
    (dats (F := F) m 0 c).Φ t = Pipeline.ΦDRG osem0 cfg0.spec H0 R0 (V m) (G m) c := by
  show (if t.val = 0 then _ else _) = _
  rw [if_neg h]

theorem Phi_eq (c : Dev nD) (W : (c : Dev nD) → (b : Ref sig .tc) → Buf (Elt F) ((c : Thread nD τ).loc b)) :
    Pipeline.ΦDRG osem0 cfg0.spec H0 R0 (V m) W c
      = iprop(((∃ f : Buf (Elt F) ((c : Thread nD τ).loc cc0_scoped0), ((c : Thread nD τ).loc cc0_scoped0) ↦{fullShare} f)
            ∗ (∃ f : Buf (Elt F) ((c : Thread nD τ).loc cc0_scoped2), ((c : Thread nD τ).loc cc0_scoped2) ↦{fullShare} f)) ∗ (∃ r, prngReg c r)
          ∗ (semVal ((c.tc : Thread nD τ), .dma (rsem cc0_scoped1 0)) 0 ∗ semVal ((c.tc : Thread nD τ), .dma (rsem cc0_scoped1 1)) 0
            ∗ semVal ((c.tc : Thread nD τ), .dma (rsem cc0_scoped1 2)) 0 ∗ semVal ((c.tc : Thread nD τ), .dma (wsem cc0_scoped3 0)) 0
            ∗ semVal ((c.tc : Thread nD τ), .dma (wsem cc0_scoped3 1)) 0)
          ∗ (((c : Thread nD τ).loc main_arg0) ↦{fullShare} V m c main_arg0) ∗ (((c : Thread nD τ).loc main_v0) ↦{fullShare} W c main_v0)) := by
  rw [Pipeline.ΦDRG_eq, scopedRest0_eq, ownSems0_list]
  unfold H0 R0
  rw [BI.bigSep_singleton, Pipeline.routed_singleton]

/-- The buffers and semaphores before the kernel's body are its rings before the first trip; -/
theorem enter (c : Dev nD) :
    iprop(((∃ f : Buf (Elt F) ((c : Thread nD τ).loc cc0_scoped0), ((c : Thread nD τ).loc cc0_scoped0) ↦{fullShare} f)
          ∗ (∃ f : Buf (Elt F) ((c : Thread nD τ).loc cc0_scoped2), ((c : Thread nD τ).loc cc0_scoped2) ↦{fullShare} f))
        ∗ (semVal ((c.tc : Thread nD τ), .dma (rsem cc0_scoped1 0)) 0 ∗ semVal ((c.tc : Thread nD τ), .dma (rsem cc0_scoped1 1)) 0
            ∗ semVal ((c.tc : Thread nD τ), .dma (rsem cc0_scoped1 2)) 0 ∗ semVal ((c.tc : Thread nD τ), .dma (wsem cc0_scoped3 0)) 0
            ∗ semVal ((c.tc : Thread nD τ), .dma (wsem cc0_scoped3 1)) 0)
        ∗ (((c : Thread nD τ).loc main_arg0) ↦{fullShare} V m c main_arg0) ∗ (((c : Thread nD τ).loc main_v0) ↦{fullShare} V m c main_v0))
      ⊢ (iprop(Ring.At₀ (cellR c cc0_scoped1) (slotR c (Memref.whole cc0_scoped0)) (homeR c (Memref.whole main_arg0) (rowBlock (V m c main_arg0)))
          ∗ Ring.AtB₀ (freeW c (Memref.whole cc0_scoped2) cc0_scoped3) (aheadW c (Memref.whole main_v0))) : sProp 𝕄) := by
  have hr : (iprop(∃ f : Buf (Elt F) ((c : Thread nD τ).loc cc0_scoped0), ((c : Thread nD τ).loc cc0_scoped0) ↦{fullShare} f) : sProp 𝕄)
      ⊢ bigSep Finset.univ fun s => iprop(∃ d, slotR c (Memref.whole cc0_scoped0) s d) := by
    refine BIBase.Entails.trans ?_ (slots_split (Val := Elt F) (c.tc : Thread nD τ) (Memref.whole cc0_scoped0) fullShare _ (fun _ _ => rfl)
      rslot_disjoint rslot_cover S8x100000 fun _ => Gen.facts.squeezes_S1x8x100000_S8x100000)
    iintro ⟨%f, H⟩
    iexists f
    rw [owns_whole]
    iexact H
  have hw : (iprop(∃ f : Buf (Elt F) ((c : Thread nD τ).loc cc0_scoped2), ((c : Thread nD τ).loc cc0_scoped2) ↦{fullShare} f) : sProp 𝕄)
      ⊢ bigSep Finset.univ fun s => iprop(∃ d : FVec F S8x100000 .f32, held c (wslot (Memref.whole cc0_scoped2) s) d) := by
    refine BIBase.Entails.trans ?_ (slots_split (Val := Elt F) (c.tc : Thread nD τ) (Memref.whole cc0_scoped2) fullShare _ (fun _ _ => rfl)
      wslot_disjoint wslot_cover S8x100000 fun _ => Gen.facts.squeezes_S1x8x100000_S8x100000)
    iintro ⟨%f, H⟩
    iexists f
    rw [owns_whole]
    iexact H
  have ha := blocks_split (F := F) (Name := ℕ) (U := Pipeline.UD sig nD τ) (Lvl := ℕ) c (Memref.whole main_arg0) (V m c main_arg0)
  have hv := ahead_split (F := F) (Name := ℕ) (U := Pipeline.UD sig nD τ) (Lvl := ℕ) c (Memref.whole main_v0) (V m c main_v0)
  rw [owns_whole] at ha hv
  rw [Ring.bigSep_fin3] at hr
  rw [Ring.bigSep_fin2] at hw
  unfold Ring.At₀ Ring.AtB₀ Ring.free freeW
  rw [Ring.bigSep_fin3, Ring.bigSep_fin2]
  iintro ⟨⟨Hr, Hw⟩, ⟨Hc0, Hc1, Hc2, Hc3, Hc4⟩, Ha, Hv⟩
  ihave Hr := hr $$ Hr
  ihave Hw := hw $$ Hw
  ihave Ha := ha $$ Ha
  ihave Hv := hv $$ Hv
  icases Hr with ⟨Hr0, Hr1, Hr2⟩
  icases Hw with ⟨Hw0, Hw1⟩
  isplitl [Ha Hc0 Hc1 Hc2 Hr0 Hr1 Hr2]
  · isplitl [Ha]; · iexact Ha
    isplitl [Hc0 Hr0]; · isplitl [Hc0]; · iexact Hc0
                         iexact Hr0
    isplitl [Hc1 Hr1]; · isplitl [Hc1]; · iexact Hc1
                         iexact Hr1
    isplitl [Hc2]; · iexact Hc2
    iexact Hr2
  isplitl [Hv]; · iexact Hv
  isplitl [Hc3 Hw0]; · isplitl [Hc3]; · iexact Hc3
                       iexact Hw0
  isplitl [Hc4]; · iexact Hc4
  iexact Hw1

/-- and its rings after the last trip are the buffers and semaphores after it. -/
theorem leave (c : Dev nD) :
    iprop((bigSep Finset.univ (homeR c (Memref.whole main_arg0) (rowBlock (V m c main_arg0)))
          ∗ Ring.free (cellR c cc0_scoped1) (slotR c (Memref.whole cc0_scoped0)) 0
          ∗ Ring.free (cellR c cc0_scoped1) (slotR c (Memref.whole cc0_scoped0)) 1
          ∗ Ring.free (cellR c cc0_scoped1) (slotR c (Memref.whole cc0_scoped0)) 2)
        ∗ Ring.AtBEnd (freeW c (Memref.whole cc0_scoped2) cc0_scoped3) (behindW c (Memref.whole main_v0) (rowBlock (V m c main_arg0))))
      ⊢ (iprop(((∃ f : Buf (Elt F) ((c : Thread nD τ).loc cc0_scoped0), ((c : Thread nD τ).loc cc0_scoped0) ↦{fullShare} f)
          ∗ (∃ f : Buf (Elt F) ((c : Thread nD τ).loc cc0_scoped2), ((c : Thread nD τ).loc cc0_scoped2) ↦{fullShare} f))
        ∗ (semVal ((c.tc : Thread nD τ), .dma (rsem cc0_scoped1 0)) 0 ∗ semVal ((c.tc : Thread nD τ), .dma (rsem cc0_scoped1 1)) 0
            ∗ semVal ((c.tc : Thread nD τ), .dma (rsem cc0_scoped1 2)) 0 ∗ semVal ((c.tc : Thread nD τ), .dma (wsem cc0_scoped3 0)) 0
            ∗ semVal ((c.tc : Thread nD τ), .dma (wsem cc0_scoped3 1)) 0)
        ∗ (((c : Thread nD τ).loc main_arg0) ↦{fullShare} V m c main_arg0) ∗ (((c : Thread nD τ).loc main_v0) ↦{fullShare} G m c main_v0)) : sProp 𝕄) := by
  have hr : (bigSep Finset.univ fun s => iprop(∃ d, slotR c (Memref.whole cc0_scoped0) s d))
      ⊢ (iprop(∃ f : Buf (Elt F) ((c : Thread nD τ).loc cc0_scoped0), ((c : Thread nD τ).loc cc0_scoped0) ↦{fullShare} f) : sProp 𝕄) := by
    refine BIBase.Entails.trans (slots_join (Val := Elt F) (c.tc : Thread nD τ) (Memref.whole cc0_scoped0) fullShare _ (fun _ _ => rfl)
      rslot_disjoint rslot_cover S8x100000 fun _ => Gen.facts.squeezes_S1x8x100000_S8x100000) ?_
    iintro ⟨%f, H⟩
    iexists f
    rw [← owns_whole]
    iexact H
  have hw : (bigSep Finset.univ fun s => iprop(∃ d : FVec F S8x100000 .f32, held c (wslot (Memref.whole cc0_scoped2) s) d))
      ⊢ (iprop(∃ f : Buf (Elt F) ((c : Thread nD τ).loc cc0_scoped2), ((c : Thread nD τ).loc cc0_scoped2) ↦{fullShare} f) : sProp 𝕄) := by
    refine BIBase.Entails.trans (slots_join (Val := Elt F) (c.tc : Thread nD τ) (Memref.whole cc0_scoped2) fullShare _ (fun _ _ => rfl)
      wslot_disjoint wslot_cover S8x100000 fun _ => Gen.facts.squeezes_S1x8x100000_S8x100000) ?_
    iintro ⟨%f, H⟩
    iexists f
    rw [← owns_whole]
    iexact H
  have ha := blocks_join (F := F) (Name := ℕ) (U := Pipeline.UD sig nD τ) (Lvl := ℕ) c (Memref.whole main_arg0) (V m c main_arg0)
  have hv := behind_join (F := F) (Name := ℕ) (U := Pipeline.UD sig nD τ) (Lvl := ℕ) c (Memref.whole main_v0) (rowBlock (V m c main_arg0))
  rw [owns_whole] at ha hv
  rw [Ring.bigSep_fin3] at hr
  rw [Ring.bigSep_fin2] at hw
  unfold Ring.AtBEnd Ring.free freeW
  rw [Ring.bigSep_fin2, G_v0]
  iintro ⟨⟨Ha, ⟨Hc0, Hr0⟩, ⟨Hc1, Hr1⟩, ⟨Hc2, Hr2⟩⟩, Hv, ⟨Hc3, Hw0⟩, ⟨Hc4, Hw1⟩⟩
  ihave Ha := ha $$ Ha
  ihave Hv := hv $$ Hv
  isplitl [Hr0 Hr1 Hr2 Hw0 Hw1]
  · isplitl [Hr0 Hr1 Hr2]
    · iapply hr
      isplitl [Hr0]; · iexact Hr0
      isplitl [Hr1]; · iexact Hr1
      iexact Hr2
    iapply hw
    isplitl [Hw0]; · iexact Hw0
    iexact Hw1
  isplitl [Hc0 Hc1 Hc2 Hc3 Hc4]
  · isplitl [Hc0]; · iexact Hc0
    isplitl [Hc1]; · iexact Hc1
    isplitl [Hc2]; · iexact Hc2
    isplitl [Hc3]; · iexact Hc3
    iexact Hc4
  isplitl [Ha]; · iexact Ha
  iexact Hv

theorem credit_r (s : Fin 3) : 0 < (rslot (Memref.whole cc0_scoped0) s).view.dmaCredit := by
  revert s; decide

theorem credit_w (b : Fin 16) : 0 < (blk (Memref.whole main_v0) b).view.dmaCredit := by
  revert b; decide

theorem sound_body (c : Dev nD) (t : Fin cfg0.N) :
    iprop((dats (F := F) m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  have ht : t.val = 0 := by
    have h := t.isLt
    have e : cfg0.N = 1 := N_0
    omega
  have hpre : (dats (F := F) m 0 c).Φ t.castSucc = Pipeline.ΦDRG osem0 cfg0.spec H0 R0 (V m) (V m) c :=
    Phi_before m c _ ht
  have hpost : (dats (F := F) m 0 c).Φ t.succ = Pipeline.ΦDRG osem0 cfg0.spec H0 R0 (V m) (G m) c :=
    Phi_after m c _ (Nat.succ_ne_zero _)
  rw [hpre, hpost, Phi_eq, Phi_eq]
  unfold Dat.owesAt Pipeline.owesWithin
  rw [show (dats (F := F) m 0 c).owed t.castSucc = 0 from rfl, show (dats (F := F) m 0 c).owed t.succ = 0 from rfl]
  unfold bodyAt0
  iintro ⟨⟨HS, Hg, Ho, Ha, Hv⟩, ⟨%W, -, HW⟩⟩
  ihave HR := enter m c $$ [HS Ho Ha Hv]
  · isplitl [HS]; · iexact HS
    isplitl [Ho]; · iexact Ho
    isplitl [Ha]; · iexact Ha
    iexact Hv
  icases HR with ⟨HR, HB⟩
  iapply (wp_wand_r frame (wpE (defs₀ (F := F)) Variants.none c none) Set.univ)
  isplitl [HR HB HW]
  · iapply (wp_outer (countersEmb (U := Pipeline.UD sig nD τ)) c (Memref.whole main_arg0) (Memref.whole main_v0) (Memref.whole cc0_scoped0)
      cc0_scoped1 (Memref.whole cc0_scoped2) cc0_scoped3 (rowBlock (V m c main_arg0)) Variants.none none credit_r credit_w)
    isplitl [HR]; · iexact HR
    isplitl [HB]; · iexact HB
    iexists W
    iexact HW
  iintro %_ ⟨HR, HB, ⟨%W', HW'⟩⟩
  ihave HL := leave m c $$ [HR HB]
  · isplitl [HR]; · iexact HR
    iexact HB
  icases HL with ⟨HS, Ho, Ha, Hv⟩
  isplitl [HS Hg Ho Ha Hv]
  · isplitl [HS]; · iexact HS
    isplitl [Hg]; · iexact Hg
    isplitl [Ho]; · iexact Ho
    isplitl [Ha]; · iexact Ha
    iexact Hv
  iexists W'
  isplitr
  · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have : IsEmpty (Fin cfg0.W) := Fin.isEmpty
  rw [Finset.univ_eq_empty, BI.bigSep_empty, BI.bigSep_empty, defs₀_row]
  refine BIBase.Entails.trans ?_ ((sound_body m c t).trans (wp_mono frame _ _ fun _ => ?_))
  · iintro ⟨H, H', -⟩
    isplitl [H]; · iexact H
    iexact H'
  · iintro ⟨H, H'⟩
    isplitl [H]; · iexact H
    isplitl [H']; · iexact H'
    iempintro

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ _ => rfl) (G := G m)
    (hin := fun c => Entails.of_eq (Phi_before m c _ rfl).symm)
    (hout := fun c => Entails.of_eq (Phi_after m c (Fin.last cfg0.N) (by rw [Fin.val_last]; exact (N_0 ▸ Nat.one_ne_zero : cfg0.grid.N ≠ 0))))

/-- The run's end: the operand unchanged, the result at `result` of the operand, every semaphore at zero. -/
theorem run_value : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_v0) = (result (V m c main_arg0) : Buf (Elt F) ((c : Thread nD τ).loc main_v0)))
    ∧ r.2.sem = fun _ => 0) :=
  (θ_run defs _ _).mono (fun _ h => ⟨fun c => ⟨(h.1.1 c).2 main_arg0 (Finset.mem_sdiff.mpr
      ⟨Pipeline.mem_restRefs_of main_arg0 (by decide) (by decide), by decide⟩),
    (h.1.2 c main_v0 (by decide)).trans (G_v0 m c)⟩, h.2⟩) (run_main m ρ)

end Cert.Proof.Run
-- ==== Proof.Ref.lean ====
/-
  The run of the reference (`Cert.ReferenceIdeal`): @main is a straight line of host operations, so every buffer ends at
  what the operations leave there from the launch contents. The line is cut into stages (the softmax, the counters, five
  times four mixing steps with a key injection, the draw, the argmax, the one-hot rows), what each stage leaves is
  stated once, and `run_value` puts them together: the result buffer holds `result` of the argument's contents, and the
  argument keeps its own.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame
public import Idealize.ShloMosaic.Adequacy
public import Idealize.ShloMosaic.Init

@[expose] public section

noncomputable section

namespace Cert.Proof.Ref

open Cert.ReferenceIdeal Cert.ReferenceIdeal.Gen
open Idealize.ShloMosaic Idealize.ShloMosaic.TcCoe Idealize.ShloMosaic.StableHlo Idealize.ShloMosaic.Pipeline Idealize.SL.Sem

variable {F : FTy → Type} [FloatOps F]

/-! ## The values the stages leave -/

/-- The word `a` at every entry. -/
def all (a : BitVec 32) : IVec S128x100000 32 := broadcastInDim S128x100000 ![] bcast_S_S128x100000 (constantI S_ 32 a)

/-- The float of the word `a` at every entry. -/
def allF (a : BitVec 32) : FVec F S128x100000 .f32 :=
  broadcastInDim S128x100000 ![] bcast_S_S128x100000 (constant S_ .f32 a)

/-- A mixing step's second word: `x` and `y` turned left by `a` bits, `b` being 32 - a, exclusive-ored. -/
def mix (x y : IVec S128x100000 32) (a b : BitVec 32) : IVec S128x100000 32 :=
  xori x (ori (Host.shli y (all a)) (Host.shrui y (all b)))

/-- Four mixing steps from the words `x`, `y`, with rotations by `a`, `b`, `c`, `d` bits (`a'` = 32 - a and so on). -/
def mix4 (x y : IVec S128x100000 32) (a a' b b' c c' d d' : BitVec 32) : IVec S128x100000 32 × IVec S128x100000 32 :=
  let x1 := addi x y
  let y1 := mix x1 y a a'
  let x2 := addi x1 y1
  let y2 := mix x2 y1 b b'
  let x3 := addi x2 y2
  let y3 := mix x3 y2 c c'
  let x4 := addi x3 y3
  (x4, mix x4 y3 d d')

/-- The key injection: `k` added to the first word, `l` and then `n` to the second. -/
def inject (w : IVec S128x100000 32 × IVec S128x100000 32) (k l n : BitVec 32) :
    IVec S128x100000 32 × IVec S128x100000 32 :=
  (addi w.1 (all k), addi (addi w.2 (all l)) (all n))

/-- The four steps with the rotations 13, 15, 26, 6. -/
def odd (w : IVec S128x100000 32 × IVec S128x100000 32) : IVec S128x100000 32 × IVec S128x100000 32 :=
  mix4 w.1 w.2 13#32 19#32 15#32 17#32 26#32 6#32 6#32 26#32

/-- The four steps with the rotations 17, 29, 16, 24. -/
def even (w : IVec S128x100000 32 × IVec S128x100000 32) : IVec S128x100000 32 × IVec S128x100000 32 :=
  mix4 w.1 w.2 17#32 15#32 29#32 3#32 16#32 16#32 24#32 8#32

/-- The counter of each entry: its row times 100000 plus its column. -/
def counter : IVec S128x100000 32 :=
  addi (muli (iotaInDim S128x100000 32 0) (all 100000#32)) (iotaInDim S128x100000 32 1)

/-- The two words before the first mixing step. -/
def start : IVec S128x100000 32 × IVec S128x100000 32 := (addi (all 0#32) (all 0#32), addi counter (all 42#32))

/-- The two words after the last key injection. -/
def words : IVec S128x100000 32 × IVec S128x100000 32 :=
  inject (odd (inject (even (inject (odd (inject (even (inject (odd start)
    42#32 466689008#32 1#32)) 466689008#32 0#32 2#32)) 0#32 42#32 3#32)) 42#32 466689008#32 4#32)) 466689008#32 0#32 5#32

/-- The uniform draw in [tiny, 1) from the two words. -/
def uniform (w : IVec S128x100000 32 × IVec S128x100000 32) : FVec F S128x100000 .f32 :=
  maximumf (allF 0x00800000#32) (addf (mulf (subf
    (bitcastToFloat .f32 (ori (Host.shrui (xori w.1 w.2) (all 9#32)) (all 1065353216#32)))
    (allF 0x3F800000#32)) (allF 0x3F800000#32)) (allF 0x00800000#32))

/-- The Gumbel noise of the two words. -/
def gumbel (w : IVec S128x100000 32 × IVec S128x100000 32) : FVec F S128x100000 .f32 :=
  Host.negf (Host.log (Host.negf (Host.log (uniform w))))

/-- Each row's values shifted by the row's maximum. -/
def shifted (x : FVec F S128x100000 .f32) : FVec F S128x100000 .f32 :=
  subf (mulf x (allF 0x3F800000#32)) (broadcastInDim S128x100000 ![0, 1] bcast_S128x1_S128x100000_0_1
    (broadcastInDim S128x1 ![0] bcast_S128_S128x1_0 (maximumf
      (broadcastInDim S128 ![] bcast_S_S128 (constant S_ .f32 0xFF800000#32))
      (Host.reduce FloatOps.maximumf (mulf x (allF 0x3F800000#32)) (constant S_ .f32 0xFF800000#32)
        reducesTo_S128x100000_S128_d1 h_S_))))

/-- The softmax of each row. -/
def softmax (x : FVec F S128x100000 .f32) : FVec F S128x100000 .f32 :=
  Host.divf (Host.exp (shifted x)) (broadcastInDim S128x100000 ![0, 1] bcast_S128x1_S128x100000_0_1
    (broadcastInDim S128x1 ![0] bcast_S128_S128x1_0 (Host.reduceAdd (Host.exp (shifted x)) (constant S_ .f32 0x00000000#32)
      reducesTo_S128x100000_S128_d1 h_S_)))

/-- The first column of each row's largest entry. -/
def argmax (z : FVec F S128x100000 .f32) : IVec S128 32 := fun j =>
  (Host.argReduce reducer_argmax_f32_i32 z (iotaInDim S128x100000 32 1) (constant S_ .f32 0xFF800000#32)
    (constantI S_ 32 0#32) reducesTo_S128x100000_S128_d1 h_S_ j).2

/-- The one-hot rows of the columns `w`. -/
def oneHot (w : IVec S128 32) : FVec F S128x100000 .f32 :=
  uitofp .f32 (cmpi .eq
    (broadcastInDim S128x100000 ![0, 1] bcast_S128x1_S128x100000_0_1 (broadcastInDim S128x1 ![0] bcast_S128_S128x1_0 w))
    (broadcastInDim S128x100000 ![0, 1] bcast_S1x100000_S128x100000_0_1 (iotaInDim S1x100000 32 1)))

/-- The perturbed logits. -/
def noisy (x : FVec F S128x100000 .f32) : FVec F S128x100000 .f32 := addf (gumbel words) (Host.log (softmax x))

/-- The reference's result from the argument `x`. -/
def result (x : FVec F S128x100000 .f32) : FVec F S128x100000 .f32 :=
  addf (oneHot (argmax (noisy x))) (subf (softmax x) (softmax x))

/-! ## The operations -/

/-- The softmax and its logarithm. -/
abbrev softOps : List (HloOp τ sig (Elt F)) :=
  [ nullary main_cst (constant S_ .f32 0x3F800000#32),
    unary main_cst main_v0 (broadcastInDim S128x100000 ![] bcast_S_S128x100000),
    binary main_arg0 main_v0 main_v1 mulf,
    nullary main_cst_0 (constant S_ .f32 0xFF800000#32),
    binary main_v1 main_cst_0 main_v2 (fun x v => Host.reduce FloatOps.maximumf x v reducesTo_S128x100000_S128_d1 h_S_),
    nullary main_cst_1 (constant S_ .f32 0xFF800000#32),
    unary main_cst_1 main_v3 (broadcastInDim S128 ![] bcast_S_S128),
    binary main_v3 main_v2 main_v4 maximumf,
    unary main_v4 main_v5 (broadcastInDim S128x1 ![0] bcast_S128_S128x1_0),
    unary main_v5 main_v6 (broadcastInDim S128x100000 ![0, 1] bcast_S128x1_S128x100000_0_1),
    binary main_v1 main_v6 main_v7 subf,
    unary main_v7 main_v8 Host.exp,
    nullary main_cst_2 (constant S_ .f32 0x00000000#32),
    binary main_v8 main_cst_2 main_v9 (fun x v => Host.reduceAdd x v reducesTo_S128x100000_S128_d1 h_S_),
    unary main_v9 main_v10 (broadcastInDim S128x1 ![0] bcast_S128_S128x1_0),
    unary main_v10 main_v11 (broadcastInDim S128x100000 ![0, 1] bcast_S128x1_S128x100000_0_1),
    binary main_v8 main_v11 main_v12 Host.divf,
    unary main_v12 main_v13 Host.log ]

/-- The counters and the two words before the first mixing. -/
abbrev countOps : List (HloOp τ sig (Elt F)) :=
  [ nullary main_v14 (iotaInDim S128x100000 32 0),
    nullary main_v15 (iotaInDim S128x100000 32 1),
    nullary main_c (constantI S_ 32 100000#32),
    unary main_c main_v16 (broadcastInDim S128x100000 ![] bcast_S_S128x100000),
    binary main_v14 main_v16 main_v17 muli,
    binary main_v17 main_v15 main_v18 addi,
    nullary main_c_3 (constantI S_ 32 0#32),
    unary main_c_3 main_v19 (broadcastInDim S128x100000 ![] bcast_S_S128x100000),
    nullary main_c_4 (constantI S_ 32 0#32),
    unary main_c_4 main_v20 (broadcastInDim S128x100000 ![] bcast_S_S128x100000),
    binary main_v19 main_v20 main_v21 addi,
    nullary main_c_5 (constantI S_ 32 42#32),
    unary main_c_5 main_v22 (broadcastInDim S128x100000 ![] bcast_S_S128x100000),
    binary main_v18 main_v22 main_v23 addi ]

/-- The first four mixing steps and the key injection after them. -/
abbrev firstOps : List (HloOp τ sig (Elt F)) :=
  [ binary main_v21 main_v23 main_v24 addi,
    nullary main_c_6 (constantI S_ 32 13#32),
    unary main_c_6 main_v25 (broadcastInDim S128x100000 ![] bcast_S_S128x100000),
    binary main_v23 main_v25 main_v26 Host.shli,
    nullary main_c_7 (constantI S_ 32 19#32),
    unary main_c_7 main_v27 (broadcastInDim S128x100000 ![] bcast_S_S128x100000),
    binary main_v23 main_v27 main_v28 Host.shrui,
    binary main_v26 main_v28 main_v29 ori,
    binary main_v24 main_v29 main_v30 xori,
    binary main_v24 main_v30 main_v31 addi,
    nullary main_c_8 (constantI S_ 32 15#32),
    unary main_c_8 main_v32 (broadcastInDim S128x100000 ![] bcast_S_S128x100000),
    binary main_v30 main_v32 main_v33 Host.shli,
    nullary main_c_9 (constantI S_ 32 17#32),
    unary main_c_9 main_v34 (broadcastInDim S128x100000 ![] bcast_S_S128x100000),
    binary main_v30 main_v34 main_v35 Host.shrui,
    binary main_v33 main_v35 main_v36 ori,
    binary main_v31 main_v36 main_v37 xori,
    binary main_v31 main_v37 main_v38 addi,
    nullary main_c_10 (constantI S_ 32 26#32),
    unary main_c_10 main_v39 (broadcastInDim S128x100000 ![] bcast_S_S128x100000),
    binary main_v37 main_v39 main_v40 Host.shli,
    nullary main_c_11 (constantI S_ 32 6#32),
    unary main_c_11 main_v41 (broadcastInDim S128x100000 ![] bcast_S_S128x100000),
    binary main_v37 main_v41 main_v42 Host.shrui,
    binary main_v40 main_v42 main_v43 ori,
    binary main_v38 main_v43 main_v44 xori,
    binary main_v38 main_v44 main_v45 addi,
    nullary main_c_12 (constantI S_ 32 6#32),
    unary main_c_12 main_v46 (broadcastInDim S128x100000 ![] bcast_S_S128x100000),
    binary main_v44 main_v46 main_v47 Host.shli,
    nullary main_c_13 (constantI S_ 32 26#32),
    unary main_c_13 main_v48 (broadcastInDim S128x100000 ![] bcast_S_S128x100000),
    binary main_v44 main_v48 main_v49 Host.shrui,
    binary main_v47 main_v49 main_v50 ori,
    binary main_v45 main_v50 main_v51 xori,
    nullary main_c_14 (constantI S_ 32 42#32),
    unary main_c_14 main_v52 (broadcastInDim S128x100000 ![] bcast_S_S128x100000),
    binary main_v45 main_v52 main_v53 addi,
    nullary main_c_15 (constantI S_ 32 466689008#32),
    unary main_c_15 main_v54 (broadcastInDim S128x100000 ![] bcast_S_S128x100000),
    binary main_v51 main_v54 main_v55 addi,
    nullary main_c_16 (constantI S_ 32 1#32),
    unary main_c_16 main_v56 (broadcastInDim S128x100000 ![] bcast_S_S128x100000),
    binary main_v55 main_v56 main_v57 addi ]

/-- The second four mixing steps and the key injection after them. -/
abbrev secondOps : List (HloOp τ sig (Elt F)) :=
  [ binary main_v53 main_v57 main_v58 addi,
    nullary main_c_17 (constantI S_ 32 17#32),
    unary main_c_17 main_v59 (broadcastInDim S128x100000 ![] bcast_S_S128x100000),
    binary main_v57 main_v59 main_v60 Host.shli,
    nullary main_c_18 (constantI S_ 32 15#32),
    unary main_c_18 main_v61 (broadcastInDim S128x100000 ![] bcast_S_S128x100000),
    binary main_v57 main_v61 main_v62 Host.shrui,
    binary main_v60 main_v62 main_v63 ori,
    binary main_v58 main_v63 main_v64 xori,
    binary main_v58 main_v64 main_v65 addi,
    nullary main_c_19 (constantI S_ 32 29#32),
    unary main_c_19 main_v66 (broadcastInDim S128x100000 ![] bcast_S_S128x100000),
    binary main_v64 main_v66 main_v67 Host.shli,
    nullary main_c_20 (constantI S_ 32 3#32),
    unary main_c_20 main_v68 (broadcastInDim S128x100000 ![] bcast_S_S128x100000),
    binary main_v64 main_v68 main_v69 Host.shrui,
    binary main_v67 main_v69 main_v70 ori,
    binary main_v65 main_v70 main_v71 xori,
    binary main_v65 main_v71 main_v72 addi,
    nullary main_c_21 (constantI S_ 32 16#32),
    unary main_c_21 main_v73 (broadcastInDim S128x100000 ![] bcast_S_S128x100000),
    binary main_v71 main_v73 main_v74 Host.shli,
    nullary main_c_22 (constantI S_ 32 16#32),
    unary main_c_22 main_v75 (broadcastInDim S128x100000 ![] bcast_S_S128x100000),
    binary main_v71 main_v75 main_v76 Host.shrui,
    binary main_v74 main_v76 main_v77 ori,
    binary main_v72 main_v77 main_v78 xori,
    binary main_v72 main_v78 main_v79 addi,
    nullary main_c_23 (constantI S_ 32 24#32),
    unary main_c_23 main_v80 (broadcastInDim S128x100000 ![] bcast_S_S128x100000),
    binary main_v78 main_v80 main_v81 Host.shli,
    nullary main_c_24 (constantI S_ 32 8#32),
    unary main_c_24 main_v82 (broadcastInDim S128x100000 ![] bcast_S_S128x100000),
    binary main_v78 main_v82 main_v83 Host.shrui,
    binary main_v81 main_v83 main_v84 ori,
    binary main_v79 main_v84 main_v85 xori,
    nullary main_c_25 (constantI S_ 32 466689008#32),
    unary main_c_25 main_v86 (broadcastInDim S128x100000 ![] bcast_S_S128x100000),
    binary main_v79 main_v86 main_v87 addi,
    nullary main_c_26 (constantI S_ 32 0#32),
    unary main_c_26 main_v88 (broadcastInDim S128x100000 ![] bcast_S_S128x100000),
    binary main_v85 main_v88 main_v89 addi,
    nullary main_c_27 (constantI S_ 32 2#32),
    unary main_c_27 main_v90 (broadcastInDim S128x100000 ![] bcast_S_S128x100000),
    binary main_v89 main_v90 main_v91 addi ]

/-- The third four mixing steps and the key injection after them. -/
abbrev thirdOps : List (HloOp τ sig (Elt F)) :=
  [ binary main_v87 main_v91 main_v92 addi,
    nullary main_c_28 (constantI S_ 32 13#32),
    unary main_c_28 main_v93 (broadcastInDim S128x100000 ![] bcast_S_S128x100000),
    binary main_v91 main_v93 main_v94 Host.shli,
    nullary main_c_29 (constantI S_ 32 19#32),
    unary main_c_29 main_v95 (broadcastInDim S128x100000 ![] bcast_S_S128x100000),
    binary main_v91 main_v95 main_v96 Host.shrui,
    binary main_v94 main_v96 main_v97 ori,
    binary main_v92 main_v97 main_v98 xori,
    binary main_v92 main_v98 main_v99 addi,
    nullary main_c_30 (constantI S_ 32 15#32),
    unary main_c_30 main_v100 (broadcastInDim S128x100000 ![] bcast_S_S128x100000),
    binary main_v98 main_v100 main_v101 Host.shli,
    nullary main_c_31 (constantI S_ 32 17#32),
    unary main_c_31 main_v102 (broadcastInDim S128x100000 ![] bcast_S_S128x100000),
    binary main_v98 main_v102 main_v103 Host.shrui,
    binary main_v101 main_v103 main_v104 ori,
    binary main_v99 main_v104 main_v105 xori,
    binary main_v99 main_v105 main_v106 addi,
    nullary main_c_32 (constantI S_ 32 26#32),
    unary main_c_32 main_v107 (broadcastInDim S128x100000 ![] bcast_S_S128x100000),
    binary main_v105 main_v107 main_v108 Host.shli,
    nullary main_c_33 (constantI S_ 32 6#32),
    unary main_c_33 main_v109 (broadcastInDim S128x100000 ![] bcast_S_S128x100000),
    binary main_v105 main_v109 main_v110 Host.shrui,
    binary main_v108 main_v110 main_v111 ori,
    binary main_v106 main_v111 main_v112 xori,
    binary main_v106 main_v112 main_v113 addi,
    nullary main_c_34 (constantI S_ 32 6#32),
    unary main_c_34 main_v114 (broadcastInDim S128x100000 ![] bcast_S_S128x100000),
    binary main_v112 main_v114 main_v115 Host.shli,
    nullary main_c_35 (constantI S_ 32 26#32),
    unary main_c_35 main_v116 (broadcastInDim S128x100000 ![] bcast_S_S128x100000),
    binary main_v112 main_v116 main_v117 Host.shrui,
    binary main_v115 main_v117 main_v118 ori,
    binary main_v113 main_v118 main_v119 xori,
    nullary main_c_36 (constantI S_ 32 0#32),
    unary main_c_36 main_v120 (broadcastInDim S128x100000 ![] bcast_S_S128x100000),
    binary main_v113 main_v120 main_v121 addi,
    nullary main_c_37 (constantI S_ 32 42#32),
    unary main_c_37 main_v122 (broadcastInDim S128x100000 ![] bcast_S_S128x100000),
    binary main_v119 main_v122 main_v123 addi,
    nullary main_c_38 (constantI S_ 32 3#32),
    unary main_c_38 main_v124 (broadcastInDim S128x100000 ![] bcast_S_S128x100000),
    binary main_v123 main_v124 main_v125 addi ]

/-- The fourth four mixing steps and the key injection after them. -/
abbrev fourthOps : List (HloOp τ sig (Elt F)) :=
  [ binary main_v121 main_v125 main_v126 addi,
    nullary main_c_39 (constantI S_ 32 17#32),
    unary main_c_39 main_v127 (broadcastInDim S128x100000 ![] bcast_S_S128x100000),
    binary main_v125 main_v127 main_v128 Host.shli,
    nullary main_c_40 (constantI S_ 32 15#32),
    unary main_c_40 main_v129 (broadcastInDim S128x100000 ![] bcast_S_S128x100000),
    binary main_v125 main_v129 main_v130 Host.shrui,
    binary main_v128 main_v130 main_v131 ori,
    binary main_v126 main_v131 main_v132 xori,
    binary main_v126 main_v132 main_v133 addi,
    nullary main_c_41 (constantI S_ 32 29#32),
    unary main_c_41 main_v134 (broadcastInDim S128x100000 ![] bcast_S_S128x100000),
    binary main_v132 main_v134 main_v135 Host.shli,
    nullary main_c_42 (constantI S_ 32 3#32),
    unary main_c_42 main_v136 (broadcastInDim S128x100000 ![] bcast_S_S128x100000),
    binary main_v132 main_v136 main_v137 Host.shrui,
    binary main_v135 main_v137 main_v138 ori,
    binary main_v133 main_v138 main_v139 xori,
    binary main_v133 main_v139 main_v140 addi,
    nullary main_c_43 (constantI S_ 32 16#32),
    unary main_c_43 main_v141 (broadcastInDim S128x100000 ![] bcast_S_S128x100000),
    binary main_v139 main_v141 main_v142 Host.shli,
    nullary main_c_44 (constantI S_ 32 16#32),
    unary main_c_44 main_v143 (broadcastInDim S128x100000 ![] bcast_S_S128x100000),
    binary main_v139 main_v143 main_v144 Host.shrui,
    binary main_v142 main_v144 main_v145 ori,
    binary main_v140 main_v145 main_v146 xori,
    binary main_v140 main_v146 main_v147 addi,
    nullary main_c_45 (constantI S_ 32 24#32),
    unary main_c_45 main_v148 (broadcastInDim S128x100000 ![] bcast_S_S128x100000),
    binary main_v146 main_v148 main_v149 Host.shli,
    nullary main_c_46 (constantI S_ 32 8#32),
    unary main_c_46 main_v150 (broadcastInDim S128x100000 ![] bcast_S_S128x100000),
    binary main_v146 main_v150 main_v151 Host.shrui,
    binary main_v149 main_v151 main_v152 ori,
    binary main_v147 main_v152 main_v153 xori,
    nullary main_c_47 (constantI S_ 32 42#32),
    unary main_c_47 main_v154 (broadcastInDim S128x100000 ![] bcast_S_S128x100000),
    binary main_v147 main_v154 main_v155 addi,
    nullary main_c_48 (constantI S_ 32 466689008#32),
    unary main_c_48 main_v156 (broadcastInDim S128x100000 ![] bcast_S_S128x100000),
    binary main_v153 main_v156 main_v157 addi,
    nullary main_c_49 (constantI S_ 32 4#32),
    unary main_c_49 main_v158 (broadcastInDim S128x100000 ![] bcast_S_S128x100000),
    binary main_v157 main_v158 main_v159 addi ]

/-- The fifth four mixing steps and the key injection after them. -/
abbrev fifthOps : List (HloOp τ sig (Elt F)) :=
  [ binary main_v155 main_v159 main_v160 addi,
    nullary main_c_50 (constantI S_ 32 13#32),
    unary main_c_50 main_v161 (broadcastInDim S128x100000 ![] bcast_S_S128x100000),
    binary main_v159 main_v161 main_v162 Host.shli,
    nullary main_c_51 (constantI S_ 32 19#32),
    unary main_c_51 main_v163 (broadcastInDim S128x100000 ![] bcast_S_S128x100000),
    binary main_v159 main_v163 main_v164 Host.shrui,
    binary main_v162 main_v164 main_v165 ori,
    binary main_v160 main_v165 main_v166 xori,
    binary main_v160 main_v166 main_v167 addi,
    nullary main_c_52 (constantI S_ 32 15#32),
    unary main_c_52 main_v168 (broadcastInDim S128x100000 ![] bcast_S_S128x100000),
    binary main_v166 main_v168 main_v169 Host.shli,
    nullary main_c_53 (constantI S_ 32 17#32),
    unary main_c_53 main_v170 (broadcastInDim S128x100000 ![] bcast_S_S128x100000),
    binary main_v166 main_v170 main_v171 Host.shrui,
    binary main_v169 main_v171 main_v172 ori,
    binary main_v167 main_v172 main_v173 xori,
    binary main_v167 main_v173 main_v174 addi,
    nullary main_c_54 (constantI S_ 32 26#32),
    unary main_c_54 main_v175 (broadcastInDim S128x100000 ![] bcast_S_S128x100000),
    binary main_v173 main_v175 main_v176 Host.shli,
    nullary main_c_55 (constantI S_ 32 6#32),
    unary main_c_55 main_v177 (broadcastInDim S128x100000 ![] bcast_S_S128x100000),
    binary main_v173 main_v177 main_v178 Host.shrui,
    binary main_v176 main_v178 main_v179 ori,
    binary main_v174 main_v179 main_v180 xori,
    binary main_v174 main_v180 main_v181 addi,
    nullary main_c_56 (constantI S_ 32 6#32),
    unary main_c_56 main_v182 (broadcastInDim S128x100000 ![] bcast_S_S128x100000),
    binary main_v180 main_v182 main_v183 Host.shli,
    nullary main_c_57 (constantI S_ 32 26#32),
    unary main_c_57 main_v184 (broadcastInDim S128x100000 ![] bcast_S_S128x100000),
    binary main_v180 main_v184 main_v185 Host.shrui,
    binary main_v183 main_v185 main_v186 ori,
    binary main_v181 main_v186 main_v187 xori,
    nullary main_c_58 (constantI S_ 32 466689008#32),
    unary main_c_58 main_v188 (broadcastInDim S128x100000 ![] bcast_S_S128x100000),
    binary main_v181 main_v188 main_v189 addi,
    nullary main_c_59 (constantI S_ 32 0#32),
    unary main_c_59 main_v190 (broadcastInDim S128x100000 ![] bcast_S_S128x100000),
    binary main_v187 main_v190 main_v191 addi,
    nullary main_c_60 (constantI S_ 32 5#32),
    unary main_c_60 main_v192 (broadcastInDim S128x100000 ![] bcast_S_S128x100000),
    binary main_v191 main_v192 main_v193 addi ]

/-- The draw from the mixed words, and the perturbed logits. -/
abbrev drawOps : List (HloOp τ sig (Elt F)) :=
  [ binary main_v189 main_v193 main_v194 xori,
    nullary main_c_61 (constantI S_ 32 9#32),
    unary main_c_61 main_v195 (broadcastInDim S128x100000 ![] bcast_S_S128x100000),
    binary main_v194 main_v195 main_v196 Host.shrui,
    nullary main_c_62 (constantI S_ 32 1065353216#32),
    unary main_c_62 main_v197 (broadcastInDim S128x100000 ![] bcast_S_S128x100000),
    binary main_v196 main_v197 main_v198 ori,
    unary main_v198 main_v199 (bitcastToFloat .f32),
    nullary main_cst_63 (constant S_ .f32 0x3F800000#32),
    unary main_cst_63 main_v200 (broadcastInDim S128x100000 ![] bcast_S_S128x100000),
    binary main_v199 main_v200 main_v201 subf,
    nullary main_cst_64 (constant S_ .f32 0x3F800000#32),
    unary main_cst_64 main_v202 (broadcastInDim S128x100000 ![] bcast_S_S128x100000),
    binary main_v201 main_v202 main_v203 mulf,
    nullary main_cst_65 (constant S_ .f32 0x00800000#32),
    unary main_cst_65 main_v204 (broadcastInDim S128x100000 ![] bcast_S_S128x100000),
    binary main_v203 main_v204 main_v205 addf,
    nullary main_cst_66 (constant S_ .f32 0x00800000#32),
    unary main_cst_66 main_v206 (broadcastInDim S128x100000 ![] bcast_S_S128x100000),
    binary main_v206 main_v205 main_v207 maximumf,
    unary main_v207 main_v208 Host.log,
    unary main_v208 main_v209 Host.negf,
    unary main_v209 main_v210 Host.log,
    unary main_v210 main_v211 Host.negf,
    binary main_v211 main_v13 main_v212 addf ]

/-- The first column of the largest perturbed logit. -/
abbrev argOps : List (HloOp τ sig (Elt F)) :=
  [ TRef.nullary (.of main_call0_v0 : TRef sig ⟨S128x100000, .i32⟩) (iotaInDim S128x100000 32 1),
    TRef.nullary (.of main_call0_cst : TRef sig ⟨S_, .f32⟩) (constant S_ .f32 0xFF800000#32),
    TRef.nullary (.of main_call0_c : TRef sig ⟨S_, .i32⟩) (constantI S_ 32 0#32),
    TRef.quaternary (.of main_v212 : TRef sig ⟨S128x100000, .f32⟩)
      (.of main_call0_v0 : TRef sig ⟨S128x100000, .i32⟩) (.of main_call0_cst : TRef sig ⟨S_, .f32⟩)
      (.of main_call0_c : TRef sig ⟨S_, .i32⟩) (.of main_call0_v1_0 : TRef sig ⟨S128, .f32⟩)
      (fun x y u v j => (Host.argReduce reducer_argmax_f32_i32 x y u v reducesTo_S128x100000_S128_d1 h_S_ j).1),
    TRef.quaternary (.of main_v212 : TRef sig ⟨S128x100000, .f32⟩)
      (.of main_call0_v0 : TRef sig ⟨S128x100000, .i32⟩) (.of main_call0_cst : TRef sig ⟨S_, .f32⟩)
      (.of main_call0_c : TRef sig ⟨S_, .i32⟩) (.of main_v213 : TRef sig ⟨S128, .i32⟩)
      (fun x y u v j => (Host.argReduce reducer_argmax_f32_i32 x y u v reducesTo_S128x100000_S128_d1 h_S_ j).2) ]

/-- The one-hot rows and the straight-through term. -/
abbrev hotOps : List (HloOp τ sig (Elt F)) :=
  [ TRef.unary (.of main_v213 : TRef sig ⟨S128, .i32⟩) (.of main_call1_v0 : TRef sig ⟨S128x1, .i32⟩)
      (broadcastInDim S128x1 ![0] bcast_S128_S128x1_0),
    TRef.nullary (.of main_call1_v1 : TRef sig ⟨S1x100000, .i32⟩) (iotaInDim S1x100000 32 1),
    TRef.unary (.of main_call1_v0 : TRef sig ⟨S128x1, .i32⟩) (.of main_call1_v2 : TRef sig ⟨S128x100000, .i32⟩)
      (broadcastInDim S128x100000 ![0, 1] bcast_S128x1_S128x100000_0_1),
    TRef.unary (.of main_call1_v1 : TRef sig ⟨S1x100000, .i32⟩) (.of main_call1_v3 : TRef sig ⟨S128x100000, .i32⟩)
      (broadcastInDim S128x100000 ![0, 1] bcast_S1x100000_S128x100000_0_1),
    TRef.binary (.of main_call1_v2 : TRef sig ⟨S128x100000, .i32⟩) (.of main_call1_v3 : TRef sig ⟨S128x100000, .i32⟩)
      (.of main_call1_v4 : TRef sig ⟨S128x100000, .i1⟩) (cmpi .eq),
    TRef.unary (.of main_call1_v4 : TRef sig ⟨S128x100000, .i1⟩) (.of main_v214 : TRef sig ⟨S128x100000, .f32⟩) (uitofp .f32),
    binary main_v12 main_v12 main_v215 subf,
    binary main_v214 main_v215 main_v216 addf ]

/-- @main's operations, in order. -/
abbrev ops : List (HloOp τ sig (Elt F)) :=
  softOps ++ (countOps ++ (firstOps ++ (secondOps ++ (thirdOps ++ (fourthOps ++ (fifthOps ++ (drawOps ++
    (argOps ++ hotOps))))))))

set_option maxRecDepth 40000 in
/-- @main is that straight line. -/
theorem main_eq (c : Dev nD) : main (F := F) c = seq ops := rfl

/-! ## What the stages leave -/

theorem soft_p (V : Valuation τ sig (Elt F)) :
    after softOps V (main_v12 : DevRef τ sig) = softmax (V (main_arg0 : DevRef τ sig)) := by
  after_reads_simp
  rfl

theorem soft_log (V : Valuation τ sig (Elt F)) :
    after softOps V (main_v13 : DevRef τ sig) = Host.log (softmax (V (main_arg0 : DevRef τ sig))) := by
  after_reads_simp
  rfl

theorem count_x (V : Valuation τ sig (Elt F)) : after countOps V (main_v21 : DevRef τ sig) = start.1 := by
  after_reads_simp
  rfl

theorem count_y (V : Valuation τ sig (Elt F)) : after countOps V (main_v23 : DevRef τ sig) = start.2 := by
  after_reads_simp
  rfl

theorem first_x (V : Valuation τ sig (Elt F)) :
    after firstOps V (main_v53 : DevRef τ sig)
      = (inject (odd (V (main_v21 : DevRef τ sig), V (main_v23 : DevRef τ sig))) 42#32 466689008#32 1#32).1 := by
  after_reads_simp
  rfl

theorem first_y (V : Valuation τ sig (Elt F)) :
    after firstOps V (main_v57 : DevRef τ sig)
      = (inject (odd (V (main_v21 : DevRef τ sig), V (main_v23 : DevRef τ sig))) 42#32 466689008#32 1#32).2 := by
  after_reads_simp
  rfl

theorem second_x (V : Valuation τ sig (Elt F)) :
    after secondOps V (main_v87 : DevRef τ sig)
      = (inject (even (V (main_v53 : DevRef τ sig), V (main_v57 : DevRef τ sig))) 466689008#32 0#32 2#32).1 := by
  after_reads_simp
  rfl

theorem second_y (V : Valuation τ sig (Elt F)) :
    after secondOps V (main_v91 : DevRef τ sig)
      = (inject (even (V (main_v53 : DevRef τ sig), V (main_v57 : DevRef τ sig))) 466689008#32 0#32 2#32).2 := by
  after_reads_simp
  rfl

theorem third_x (V : Valuation τ sig (Elt F)) :
    after thirdOps V (main_v121 : DevRef τ sig)
      = (inject (odd (V (main_v87 : DevRef τ sig), V (main_v91 : DevRef τ sig))) 0#32 42#32 3#32).1 := by
  after_reads_simp
  rfl

theorem third_y (V : Valuation τ sig (Elt F)) :
    after thirdOps V (main_v125 : DevRef τ sig)
      = (inject (odd (V (main_v87 : DevRef τ sig), V (main_v91 : DevRef τ sig))) 0#32 42#32 3#32).2 := by
  after_reads_simp
  rfl

theorem fourth_x (V : Valuation τ sig (Elt F)) :
    after fourthOps V (main_v155 : DevRef τ sig)
      = (inject (even (V (main_v121 : DevRef τ sig), V (main_v125 : DevRef τ sig))) 42#32 466689008#32 4#32).1 := by
  after_reads_simp
  rfl

theorem fourth_y (V : Valuation τ sig (Elt F)) :
    after fourthOps V (main_v159 : DevRef τ sig)
      = (inject (even (V (main_v121 : DevRef τ sig), V (main_v125 : DevRef τ sig))) 42#32 466689008#32 4#32).2 := by
  after_reads_simp
  rfl

theorem fifth_x (V : Valuation τ sig (Elt F)) :
    after fifthOps V (main_v189 : DevRef τ sig)
      = (inject (odd (V (main_v155 : DevRef τ sig), V (main_v159 : DevRef τ sig))) 466689008#32 0#32 5#32).1 := by
  after_reads_simp
  rfl

theorem fifth_y (V : Valuation τ sig (Elt F)) :
    after fifthOps V (main_v193 : DevRef τ sig)
      = (inject (odd (V (main_v155 : DevRef τ sig), V (main_v159 : DevRef τ sig))) 466689008#32 0#32 5#32).2 := by
  after_reads_simp
  rfl

theorem draw_noisy (V : Valuation τ sig (Elt F)) :
    after drawOps V (main_v212 : DevRef τ sig)
      = addf (gumbel (V (main_v189 : DevRef τ sig), V (main_v193 : DevRef τ sig))) (V (main_v13 : DevRef τ sig)) := by
  after_reads_simp
  rfl

theorem arg_idx (V : Valuation τ sig (Elt F)) :
    after argOps V (main_v213 : DevRef τ sig) = argmax (V (main_v212 : DevRef τ sig)) := by
  after_reads_simp
  rfl

theorem hot_out (V : Valuation τ sig (Elt F)) :
    after hotOps V (main_v216 : DevRef τ sig)
      = addf (oneHot (V (main_v213 : DevRef τ sig)))
          (subf (V (main_v12 : DevRef τ sig)) (V (main_v12 : DevRef τ sig))) := by
  after_reads_simp
  rfl

/-- The middle stages: from the counters to the last key injection. -/
abbrev midOps : List (HloOp τ sig (Elt F)) :=
  countOps ++ (firstOps ++ (secondOps ++ (thirdOps ++ (fourthOps ++ fifthOps))))

theorem mid_x (V : Valuation τ sig (Elt F)) : after midOps V (main_v189 : DevRef τ sig) = words.1 := by
  simp only [after_append]
  rw [fifth_x, fourth_x, fourth_y, third_x, third_y, second_x, second_y, first_x, first_y, count_x, count_y]
  rfl

theorem mid_y (V : Valuation τ sig (Elt F)) : after midOps V (main_v193 : DevRef τ sig) = words.2 := by
  simp only [after_append]
  rw [fifth_y, fourth_x, fourth_y, third_x, third_y, second_x, second_y, first_x, first_y, count_x, count_y]
  rfl

theorem mid_p (V : Valuation τ sig (Elt F)) :
    after midOps V (main_v12 : DevRef τ sig) = V (main_v12 : DevRef τ sig) := by
  after_reads_simp

theorem mid_log (V : Valuation τ sig (Elt F)) :
    after midOps V (main_v13 : DevRef τ sig) = V (main_v13 : DevRef τ sig) := by
  after_reads_simp

theorem draw_p (V : Valuation τ sig (Elt F)) :
    after drawOps V (main_v12 : DevRef τ sig) = V (main_v12 : DevRef τ sig) := by
  after_reads_simp

theorem arg_p (V : Valuation τ sig (Elt F)) :
    after argOps V (main_v12 : DevRef τ sig) = V (main_v12 : DevRef τ sig) := by
  after_reads_simp

/-- The whole line's stages, the middle ones together. -/
theorem after_ops (V : Valuation τ sig (Elt F)) :
    after ops V = after hotOps (after argOps (after drawOps (after midOps (after softOps V)))) := by
  simp only [after_append]

/-- The line leaves the reference's result in the result buffer … -/
theorem out_eq (V : Valuation τ sig (Elt F)) :
    after ops V (main_v216 : DevRef τ sig) = result (V (main_arg0 : DevRef τ sig)) := by
  rw [after_ops, hot_out, arg_idx, arg_p, draw_noisy, draw_p, mid_x, mid_y, mid_p, mid_log, soft_p, soft_log]
  rfl

/-- … and the argument buffer as it was. -/
theorem arg_eq (V : Valuation τ sig (Elt F)) :
    after ops V (main_arg0 : DevRef τ sig) = V (main_arg0 : DevRef τ sig) := by
  after_reads_simp

/-! ## The run -/

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append, List.forall_cons, List.Forall, nullary_bufs_sub, unary_bufs_sub, binary_bufs_sub,
    quaternary_bufs_sub, and_true]

/-- From any memory with zero counters every execution ends, the result buffer at `result` of the argument's contents,
    the argument's contents as they were, and every semaphore counter at zero. -/
theorem run_value (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_v216) = result (m ((c.tc : Thread nD τ).loc main_arg0)))
      ∧ r.2.sem = fun _ => 0 :=
  (θ_run defs _ _).mono (fun r h => ⟨fun c => ⟨(h c main_arg0).trans (arg_eq _), (h c main_v216).trans (out_eq _)⟩,
      Idealize.ShloMosaic.sem_eq_zero_of_no_sems (by decide) r.2⟩)
    (run_seq scopedRefs_eq scopedSems_eq defs main (fun _ => ops) main_eq (fun _ => ops_sub) m ρ)

end Cert.Proof.Ref

end
-- ==== Proof.Hash.lean ====
/-
  The random words, entry by entry: the kernel's hash and the reference's are one function of the counter, and the
  uniform draw made of it is a real number strictly between 0 and 1.
-/
module

public import proofs.«01_k».proof.Proof.Body
public import proofs.«01_k».proof.Proof.Ref
public import Idealize.ShloMosaic.PureOps.Ideal
public import Idealize.ShloMosaic.PureOps.Ideal.Laws

@[expose] public section

noncomputable section

namespace Cert.Proof.Hash

open Idealize.ShloMosaic

/-- The draw's bits at one counter. -/
def bitsAt (w : BitVec 32) : BitVec 32 := Body.bits (s := ⟨0, ![]⟩) (fun _ => w) (fun a => a.elim0)

/-- The draw's bits at an entry depend on the entry's counter alone. -/
theorem bits_apply {s : Shape} (j : IVec s 32) (i : s.Idx) : Body.bits j i = bitsAt (j i) := rfl

/-- The reference's mixing step is the kernel's. -/
theorem mix_eq (x y : IVec Cert.ReferenceIdeal.S128x100000 32) (a b : BitVec 32) (ha : a.toNat < 32) (hb : b.toNat < 32) :
    Ref.mix x y a b = Body.mixY x y a b := by
  funext i
  show IntOp.xori (x i) (IntOp.ori (IntOp.shli .host (y i) a) (IntOp.shrui .host (y i) b))
    = IntOp.xori (x i) (IntOp.ori (IntOp.shli .vector (y i) a) (IntOp.shrui .vector (y i) b))
  simp only [IntOp.shli, IntOp.shrui, if_pos ha, if_pos hb]

theorem mix4_eq (x y : IVec Cert.ReferenceIdeal.S128x100000 32) (a a' b b' c c' d d' : BitVec 32)
    (ha : a.toNat < 32) (ha' : a'.toNat < 32) (hb : b.toNat < 32) (hb' : b'.toNat < 32)
    (hc : c.toNat < 32) (hc' : c'.toNat < 32) (hd : d.toNat < 32) (hd' : d'.toNat < 32) :
    Ref.mix4 x y a a' b b' c c' d d' =
      (let x1 := addi x y
       let y1 := Body.mixY x1 y a a'
       let x2 := addi x1 y1
       let y2 := Body.mixY x2 y1 b b'
       let x3 := addi x2 y2
       let y3 := Body.mixY x3 y2 c c'
       let x4 := addi x3 y3
       (x4, Body.mixY x4 y3 d d')) := by
  simp only [Ref.mix4, mix_eq _ _ a a' ha ha', mix_eq _ _ b b' hb hb', mix_eq _ _ c c' hc hc', mix_eq _ _ d d' hd hd']

/-- The first words' sum is the shifted counter. -/
theorem start_sum : addi Ref.start.1 Ref.start.2 = Ref.start.2 := by
  funext i
  show (0#32 + 0#32) + (Ref.start.2 i) = Ref.start.2 i
  simp

/-- The reference's two words, exclusive-ored, are the kernel's hash of the shifted counter. -/
theorem words_eq : xori Ref.words.1 Ref.words.2 = Body.hash Ref.start.2 := by
  have hodd : ∀ w, Ref.odd w = _ := fun w => mix4_eq w.1 w.2 13#32 19#32 15#32 17#32 26#32 6#32 6#32 26#32
    (by decide) (by decide) (by decide) (by decide) (by decide) (by decide) (by decide) (by decide)
  have heven : ∀ w, Ref.even w = _ := fun w => mix4_eq w.1 w.2 17#32 15#32 29#32 3#32 16#32 16#32 24#32 8#32
    (by decide) (by decide) (by decide) (by decide) (by decide) (by decide) (by decide) (by decide)
  unfold Ref.words
  rw [hodd Ref.start, start_sum]
  simp only [hodd, heven]
  rfl

/-! ## The uniform draw -/

/-- The smallest normal float. -/
def tiny : ℝ := (2 : ℝ) ^ (-126 : ℤ)

theorem tiny_pos : 0 < tiny := by unfold tiny; positivity

theorem tiny_lt : tiny < (2 : ℝ) ^ (-23 : ℤ) := by
  unfold tiny
  exact zpow_lt_zpow_right₀ (by norm_num) (by norm_num)

/-- The positive normal float with the exponent field `e` and the significand `n`. -/
theorem ofBits_normal (b : BitVec 32) (e n : ℕ) (he : 0 < e) (he' : e < 255) (hn : n < 8388608)
    (hb : b.toNat = e * 8388608 + n) :
    Ideal.ofBits .f32 b = (((8388608 + n : ℕ) : ℝ) * (2 : ℝ) ^ ((e : ℤ) - 127 - 23) : ℝ) := by
  have h0 : (b.extractLsb' 31 1 == 1#1) = false := by
    rw [beq_eq_false_iff_ne]
    intro h
    have := congrArg BitVec.toNat h
    rw [BitVec.extractLsb'_toNat, Nat.shiftRight_eq_div_pow] at this
    simp at this
    omega
  have h1 : (b.extractLsb' 23 8).toNat = e := by
    rw [BitVec.extractLsb'_toNat, Nat.shiftRight_eq_div_pow]
    omega
  have h2 : (b.extractLsb' 0 23).toNat = n := by
    rw [BitVec.extractLsb'_toNat, Nat.shiftRight_eq_div_pow]
    omega
  simp only [Ideal.ofBits, Ideal.ieee, h0, h1, h2]
  rw [if_neg (by omega), if_neg (by omega), if_neg (by decide), one_mul]
  norm_num

theorem ofBits_tiny : Ideal.ofBits .f32 0x00800000#32 = (tiny : EReal) := by
  rw [ofBits_normal _ 1 0 (by norm_num) (by norm_num) (by norm_num) rfl]
  unfold tiny
  norm_num

theorem ofBits_one : Ideal.ofBits .f32 0x3F800000#32 = ((1 : ℝ) : EReal) := by
  rw [ofBits_normal _ 127 0 (by norm_num) (by norm_num) (by norm_num) rfl]
  norm_num

theorem ofBits_bot : Ideal.ofBits .f32 0xFF800000#32 = (⊥ : EReal) := by
  simp only [Ideal.ofBits, Ideal.ieee]
  rw [if_pos (by decide), if_pos (by decide), if_pos (by decide)]

theorem ofBits_top : Ideal.ofBits .f32 0x7F800000#32 = (⊤ : EReal) := by
  simp only [Ideal.ofBits, Ideal.ieee]
  rw [if_pos (by decide), if_pos (by decide), if_neg (by decide)]

/-- A word with the exponent of 1 and the significand `n` denotes 1 + n / 2^23. -/
theorem ofBits_unit (b : BitVec 32) (n : ℕ) (hn : n < 8388608) (hb : b.toNat = 1065353216 + n) :
    Ideal.ofBits .f32 b = ((1 + n / 8388608 : ℝ) : EReal) := by
  rw [ofBits_normal b 127 n (by norm_num) (by norm_num) hn (by omega)]
  congr 1
  push_cast
  norm_num
  ring

/-- The draw's word has the exponent of 1. -/
theorem bitsAt_toNat (w : BitVec 32) : ∃ n : ℕ, n < 8388608 ∧ (bitsAt w).toNat = 1065353216 + n := by
  have h : bitsAt w = IntOp.ori (IntOp.shrui .vector (Body.hash (s := ⟨0, ![]⟩) (fun _ => w) (fun a => a.elim0)) 9#32)
      1065353216#32 := rfl
  generalize Body.hash (s := ⟨0, ![]⟩) (fun _ => w) (fun a => a.elim0) = v at h
  refine ⟨v.toNat / 512, by omega, ?_⟩
  rw [h]
  have h9 : (9#32).toNat < 32 := by decide
  simp only [IntOp.shrui, if_pos h9, IntOp.ori]
  rw [BitVec.toNat_or, BitVec.ushiftRight_eq', BitVec.toNat_ushiftRight, Nat.shiftRight_eq_div_pow]
  show v.toNat / 512 ||| 1065353216 = _
  rw [Nat.or_comm]
  exact (Nat.two_pow_add_eq_or_of_lt (i := 23) (by have := v.isLt; omega) 127).symm

/-- The uniform draw at one counter: the word's float, less 1, plus the smallest normal float. -/
def unitAt (w : BitVec 32) : EReal :=
  Ideal.ofBits .f32 (bitsAt w) - Ideal.ofBits .f32 0x3F800000#32 + Ideal.ofBits .f32 0x00800000#32

/-- It is a real number from `tiny` on and below 1. -/
theorem unitAt_real (w : BitVec 32) : ∃ r : ℝ, tiny ≤ r ∧ r < 1 ∧ unitAt w = (r : EReal) := by
  obtain ⟨n, hn, h⟩ := bitsAt_toNat w
  refine ⟨n / 8388608 + tiny, ?_, ?_, ?_⟩
  · have : (0 : ℝ) ≤ n / 8388608 := by positivity
    linarith
  · have h1 : (n : ℝ) ≤ 8388607 := by exact_mod_cast Nat.le_of_lt_succ hn
    have h2 := tiny_lt
    have h3 : ((2 : ℝ) ^ (-23 : ℤ)) = 1 / 8388608 := by norm_num
    rw [h3] at h2
    have h4 : (n : ℝ) / 8388608 ≤ 8388607 / 8388608 := div_le_div_of_nonneg_right h1 (by norm_num)
    linarith
  · unfold unitAt
    rw [ofBits_unit _ n hn h, ofBits_one, ofBits_tiny, ← EReal.coe_sub, ← EReal.coe_add]
    congr 1
    ring

theorem log_coe (r : ℝ) (h : 0 < r) : Ideal.log (r : EReal) = (Real.log r : EReal) := by
  show (if r ≤ 0 then ⊥ else (Real.log r : EReal)) = _
  rw [if_neg (not_le.mpr h)]

/-- The noise at one counter: a real number, which both programs compute. -/
theorem noise_real (w : BitVec 32) : ∃ l : ℝ, Ideal.log (0 - Ideal.log (unitAt w)) = (l : EReal)
    ∧ -Ideal.log (-Ideal.log (max (tiny : EReal) (unitAt w))) = ((-l : ℝ) : EReal) := by
  obtain ⟨r, h0, h1, h⟩ := unitAt_real w
  have hr : 0 < r := lt_of_lt_of_le tiny_pos h0
  have hn : 0 < -Real.log r := neg_pos.mpr (Real.log_neg hr h1)
  refine ⟨Real.log (-Real.log r), ?_, ?_⟩
  · rw [h, log_coe r hr, zero_sub, ← EReal.coe_neg, log_coe _ hn]
  · rw [h, max_eq_right (EReal.coe_le_coe_iff.mpr h0), log_coe r hr, ← EReal.coe_neg, log_coe _ hn, ← EReal.coe_neg]

end Cert.Proof.Hash

end
-- ==== Proof.First.lean ====
/-
  The first place of the largest value: what it is, that there is one at most, how it is found by a running maximum and
  by a reduction over lanes, and the readings of the kernel's row reductions.
-/
module

public import proofs.«01_k».proof.Proof.Hash
public import Idealize.ShloMosaic.PureOps.Ideal
public import Idealize.ShloMosaic.PureOps.Ideal.Laws
public import Idealize.ShloMosaic.Lib.ValueIdx
public import Idealize.ShloMosaic.Lib.ValueIdxRank1
public import Idealize.ShloMosaic.Lib.ValueLayoutCasts

@[expose] public section

noncomputable section

namespace Cert.Proof

open Idealize.ShloMosaic Idealize.ShloMosaic.ValueIdx

/-- `c` is the first of the places `p` at which `f` is largest. -/
def IsFirst (f : ℕ → EReal) (p : ℕ → Prop) (c : ℕ) : Prop :=
  p c ∧ (∀ k, p k → f k ≤ f c) ∧ ∀ k, p k → k < c → f k < f c

namespace IsFirst

variable {f g : ℕ → EReal} {p q : ℕ → Prop} {c d : ℕ}

/-- There is one first place at most. -/
theorem unique (h : IsFirst f p c) (h' : IsFirst f p d) : c = d := by
  rcases lt_trichotomy c d with hlt | heq | hgt
  · exact absurd (h'.2.2 c h.1 hlt) (not_lt.mpr (h.2.1 d h'.1))
  · exact heq
  · exact absurd (h.2.2 d h'.1 hgt) (not_lt.mpr (h'.2.1 c h.1))

/-- The place of a single value is the first. -/
theorem single (f : ℕ → EReal) (c : ℕ) : IsFirst f (fun k => k = c) c :=
  ⟨rfl, fun k hk => le_of_eq (congrArg f hk), fun _ hk hlt => absurd hk (Nat.ne_of_lt hlt)⟩

theorem congr (h : IsFirst f p c) (hp : ∀ k, p k ↔ q k) : IsFirst f q c :=
  ⟨(hp c).mp h.1, fun k hk => h.2.1 k ((hp k).mpr hk), fun k hk => h.2.2 k ((hp k).mpr hk)⟩

/-- Two functions that order the places alike have the same first place. -/
theorem of_order (h : IsFirst f p c) (hfg : ∀ k l, p k → p l → (f k ≤ f l ↔ g k ≤ g l)) : IsFirst g p c :=
  ⟨h.1, fun k hk => (hfg k c hk h.1).mp (h.2.1 k hk), fun k hk hlt =>
    not_le.mp fun hle => absurd (h.2.2 k hk hlt) (not_lt.mpr ((hfg c k h.1 hk).mpr hle))⟩

/-- Later places that hold a larger value take over. -/
theorem later (h : IsFirst f p c) (h' : IsFirst f q d) (hpq : ∀ k l, p k → q l → k < l) (hlt : f c < f d) :
    IsFirst f (fun k => p k ∨ q k) d :=
  ⟨Or.inr h'.1, fun k hk => hk.elim (fun hk => (h.2.1 k hk).trans hlt.le) (h'.2.1 k), fun k hk hkd =>
    hk.elim (fun hk => lt_of_le_of_lt (h.2.1 k hk) hlt) fun hk => h'.2.2 k hk hkd⟩

/-- Later places that hold no larger value do not. -/
theorem earlier (h : IsFirst f p c) (h' : IsFirst f q d) (hpq : ∀ k l, p k → q l → k < l) (hle : f d ≤ f c) :
    IsFirst f (fun k => p k ∨ q k) c :=
  ⟨Or.inl h.1, fun k hk => hk.elim (h.2.1 k) fun hk => (h'.2.1 k hk).trans hle, fun k hk hkc =>
    hk.elim (fun hk => h.2.2 k hk hkc) fun hk => absurd (hpq c k h.1 hk) (Nat.lt_asymm hkc)⟩

/-- Of several sets of places, the first of all is the least of those firsts whose value is largest. -/
theorem family {ι : Type} {P : ι → ℕ → Prop} {C : ι → ℕ} (h : ∀ l, IsFirst f (P l) (C l)) (m : ι)
    (hmax : ∀ l, f (C l) ≤ f (C m)) (hmin : ∀ l, f (C l) = f (C m) → C m ≤ C l) :
    IsFirst f (fun k => ∃ l, P l k) (C m) :=
  ⟨⟨m, (h m).1⟩, fun k ⟨l, hl⟩ => ((h l).2.1 k hl).trans (hmax l), fun k ⟨l, hl⟩ hlt => by
    rcases lt_or_eq_of_le (((h l).2.1 k hl).trans (hmax l)) with hk | hk
    · exact hk
    · have heq : f (C l) = f (C m) := le_antisymm (hmax l) (hk ▸ (h l).2.1 k hl)
      exact absurd ((h l).2.2 k hl (lt_of_lt_of_le hlt (hmin l heq))) (by rw [hk, heq]; exact lt_irrefl _)⟩

end IsFirst

/-! ## Reductions over lanes -/

/-- A fold of the maximum from −∞ is above every value, and is one of them. -/
theorem fold_max {n : ℕ} [NeZero n] (y : Fin n → EReal) :
    (∀ l, y l ≤ Finset.univ.fold max ⊥ y) ∧ ∃ l, Finset.univ.fold max ⊥ y = y l := by
  have hle : ∀ l, y l ≤ Finset.univ.fold max ⊥ y := fun l => Finset.le_sup (f := y) (Finset.mem_univ l)
  refine ⟨hle, ?_⟩
  have hs : Finset.univ.fold max ⊥ y = Finset.univ.sup y := rfl
  obtain ⟨l, -, hl⟩ := Finset.exists_mem_eq_sup Finset.univ ⟨(0 : Fin n), Finset.mem_univ _⟩ y
  exact ⟨l, hs.trans hl⟩

/-- The smaller of two words below 2^31, as signed numbers. -/
theorem minsi_toNat (a b : BitVec 32) (ha : a.toNat < 2147483648) (hb : b.toNat < 2147483648) :
    (IntOp.minsi a b = a ∨ IntOp.minsi a b = b) ∧ (IntOp.minsi a b).toNat ≤ a.toNat ∧ (IntOp.minsi a b).toNat ≤ b.toNat := by
  unfold IntOp.minsi
  have hs : a.slt b = true ↔ a.toNat < b.toNat := by
    rw [BitVec.slt_iff_toInt_lt, BitVec.toInt_eq_toNat_of_lt (by omega), BitVec.toInt_eq_toNat_of_lt (by omega)]
    exact Int.ofNat_lt
  split
  · next h => exact ⟨Or.inl rfl, le_rfl, (hs.mp h).le⟩
  · next h => exact ⟨Or.inr rfl, not_lt.mp fun hlt => h (hs.mpr hlt), le_rfl⟩

/-- A fold of the signed minimum from the largest word over words below 2^31 is below every one of them, and is the
    largest word or one of them. -/
theorem fold_min {ι : Type} (s : Finset ι) (y : ι → BitVec 32) (hy : ∀ l, (y l).toNat < 2147483648) :
    (s.fold IKind.minsi.op 2147483647#32 y).toNat < 2147483648
    ∧ (∀ l ∈ s, (s.fold IKind.minsi.op 2147483647#32 y).toNat ≤ (y l).toNat)
    ∧ (s.fold IKind.minsi.op 2147483647#32 y = 2147483647#32 ∨ ∃ l ∈ s, s.fold IKind.minsi.op 2147483647#32 y = y l) := by
  classical
  induction s using Finset.induction with
  | empty => exact ⟨by simp, by simp, Or.inl (by simp)⟩
  | insert a s ha ih =>
    obtain ⟨h0, h1, h2⟩ := ih
    rw [Finset.fold_insert ha]
    obtain ⟨k0, k1, k2⟩ := minsi_toNat (y a) (s.fold IKind.minsi.op 2147483647#32 y) (hy a) h0
    change (IntOp.minsi (y a) _).toNat < _ ∧ (∀ l ∈ _, (IntOp.minsi (y a) _).toNat ≤ _) ∧ (IntOp.minsi (y a) _ = _ ∨ ∃ l ∈ _, IntOp.minsi (y a) _ = _)
    refine ⟨lt_of_le_of_lt k2 h0, fun l hl => ?_, ?_⟩
    · rcases Finset.mem_insert.mp hl with rfl | hl
      · exact k1
      · exact k2.trans (h1 l hl)
    · rcases k0 with k | k
      · exact Or.inr ⟨a, Finset.mem_insert_self _ _, k⟩
      · rw [k]
        rcases h2 with h2 | ⟨l, hl, h2⟩
        · exact Or.inl h2
        · exact Or.inr ⟨l, Finset.mem_insert_of_mem hl, h2⟩

/-- A row's element, by the row and the lane inserted in it. -/
theorem lift_row {m n : ℕ} (h : (⟨2, ![m, n]⟩ : Shape).Reduces [1] ⟨1, ![m]⟩) (r : Fin m) (l : Fin n) :
    h.lift (ix1 r) l = ix2 r l := by
  funext a
  apply Fin.ext
  match a with
  | ⟨0, _⟩ => rfl
  | ⟨1, _⟩ => rfl

/-- A row's maximum: the fold of the maximum over its lanes. -/
theorem row_max {n : ℕ} (h : (⟨2, ![8, n]⟩ : Shape).Reduces [1] ⟨1, ![8]⟩)
    (hc : (⟨1, ![8]⟩ : Shape).ShapeCasts ⟨2, ![8, 1]⟩) (b : FVec Ideal ⟨2, ![8, n]⟩ .f32) (r : Fin 8) (u : Fin 1) :
    shapeCast ⟨2, ![8, 1]⟩ (multiReduction .maximumf [1] ⟨1, ![8]⟩ b 0xFF800000#32 h (.inl rfl) rfl) hc (ix2 r u)
      = Finset.univ.fold max (⊥ : EReal) fun l : Fin n => b (ix2 r l) := by
  refine (shapeCast_a_a1_apply _ hc r u).trans ((Ideal.multiReduction_maximumf_single b _ h (.inl rfl) rfl (ix1 r)).trans ?_)
  change Finset.univ.fold max (Ideal.ofBits .f32 0xFF800000#32) (b ∘ h.lift (ix1 r)) = _
  rw [Hash.ofBits_bot]
  exact congrArg (fun y => Finset.univ.fold max (⊥ : EReal) y) (funext fun l => congrArg b (lift_row h r l))

/-- A row's least index: the fold of the signed minimum over its lanes. -/
theorem row_min {n : ℕ} (h : (⟨2, ![8, n]⟩ : Shape).Reduces [1] ⟨1, ![8]⟩)
    (hc : (⟨1, ![8]⟩ : Shape).ShapeCasts ⟨2, ![8, 1]⟩) (i : IVec ⟨2, ![8, n]⟩ 32) (r : Fin 8) (u : Fin 1) :
    shapeCast ⟨2, ![8, 1]⟩ (multiReductionI .minsi [1] ⟨1, ![8]⟩ i 2147483647#32 h rfl) hc (ix2 r u)
      = Finset.univ.fold IKind.minsi.op 2147483647#32 fun l : Fin n => i (ix2 r l) := by
  refine (shapeCast_a_a1_apply _ hc r u).trans ((multiReductionI_eq_fold .minsi i _ h rfl (ix1 r)).trans
    ((h.fold_filter_drop_single _ _ i (ix1 r)).trans ?_))
  exact congrArg (fun y => Finset.univ.fold IKind.minsi.op 2147483647#32 y) (funext fun l => congrArg i (lift_row h r l))

/-- If every lane `l` of a row holds the value at the first place `C l` of its own places, the row's maximum is the value at
    the first place of all, and the least index among the lanes that hold the maximum is that place. -/
theorem row_first {n : ℕ} [NeZero n] (f : ℕ → EReal) (P : Fin n → ℕ → Prop) (C : Fin n → ℕ) (y : Fin n → EReal)
    (w : Fin n → BitVec 32) (hF : ∀ l, IsFirst f (P l) (C l)) (hy : ∀ l, y l = f (C l))
    (hw : ∀ l, w l = if y l = Finset.univ.fold max ⊥ y then BitVec.ofNat 32 (C l) else 2147483647#32)
    (hC : ∀ l, C l < 2147483647) :
    ∃ c, Finset.univ.fold max ⊥ y = f c ∧ Finset.univ.fold IKind.minsi.op 2147483647#32 w = BitVec.ofNat 32 c
      ∧ IsFirst f (fun k => ∃ l, P l k) c := by
  obtain ⟨hle, l0, hl0⟩ := fold_max y
  have hn : ∀ l, (BitVec.ofNat 32 (C l)).toNat = C l := fun l => by
    rw [BitVec.toNat_ofNat]; exact Nat.mod_eq_of_lt (by have := hC l; omega)
  have hwlt : ∀ l, (w l).toNat < 2147483648 := fun l => by
    rw [hw]
    split
    · rw [hn]; have := hC l; omega
    · decide
  obtain ⟨-, hmin, hmem⟩ := fold_min Finset.univ w hwlt
  have h0 : (Finset.univ.fold IKind.minsi.op 2147483647#32 w).toNat < 2147483647 := by
    refine lt_of_le_of_lt (hmin l0 (Finset.mem_univ _)) ?_
    rw [hw, if_pos hl0.symm, hn]
    exact hC l0
  obtain ⟨m, hm⟩ : ∃ m, Finset.univ.fold IKind.minsi.op 2147483647#32 w = w m := by
    rcases hmem with h | ⟨m, -, h⟩
    · rw [h] at h0; exact absurd h0 (by decide)
    · exact ⟨m, h⟩
  have hmy : y m = Finset.univ.fold max ⊥ y := by
    by_contra hne
    rw [hm, hw, if_neg hne] at h0
    exact absurd h0 (by decide)
  have hwm : w m = BitVec.ofNat 32 (C m) := by rw [hw, if_pos hmy]
  refine ⟨C m, by rw [← hmy, hy], hm.trans hwm, IsFirst.family hF m (fun l => ?_) fun l hl => ?_⟩
  · rw [← hy, ← hy, hmy]; exact hle l
  · have := hmin l (Finset.mem_univ _)
    rw [hm, hwm, hn, hw, if_pos (by rw [hy, hl, ← hy, hmy]), hn] at this
    exact this

end Cert.Proof

end
-- ==== Proof.Winner.lean ====
/-
  The winning column of a row, as the kernel finds it: the first place of the row's largest score.
-/
module

public import proofs.«01_k».proof.Proof.First
public import proofs.«01_k».proof.Proof.BlockWp

@[expose] public section

noncomputable section

namespace Cert.Proof.Winner

open Cert.KernelIdeal Cert.KernelIdeal.Facts₀ Cert.KernelIdeal.Facts
open Idealize.ShloMosaic Idealize.ShloMosaic.ValueIdx
open Cert.Proof.Body

/-- The score of the entry `x` at the counter `w`. -/
def scoreAt (w : BitVec 32) (x : EReal) : EReal := x - Ideal.log (0 - Ideal.log (Hash.unitAt w))

/-- A score, by the bits of its random draw. -/
theorem score_bits {s : Shape} (B : IVec s 32) (x : FVec Ideal s .f32) (i : s.Idx) :
    subf x (log (subf (broadcast s (Scalar.ofBits .f32 0x00000000#32)) (log (addf (subf
      (bitcastToFloat .f32 B) (broadcast s (Scalar.ofBits .f32 0x3F800000#32)))
        (broadcast s (Scalar.ofBits .f32 0x00800000#32)))))) i
      = x i - Ideal.log (Ideal.ofBits .f32 0x00000000#32 - Ideal.log (Ideal.ofBits .f32 (B i)
        - Ideal.ofBits .f32 0x3F800000#32 + Ideal.ofBits .f32 0x00800000#32)) := rfl

/-- A score is made entry by entry. -/
theorem score_apply {s : Shape} (j : IVec s 32) (x : FVec Ideal s .f32) (i : s.Idx) :
    score j x i = scoreAt (j i) (x i) := by
  unfold score scoreAt Hash.unitAt
  rw [score_bits, Ideal.ofBits_zero_f32, Hash.bits_apply]

/-- The score at row `r` and column `n` of a block `X` whose first counter is `q`. -/
def rowScore (q : BitVec 32) (X : FVec Ideal S8x100000 .f32) (r : Fin 8) (n : ℕ) : EReal :=
  scoreAt (q + 42#32 + BitVec.ofNat 32 r.val * 100000#32 + BitVec.ofNat 32 n) (X (at2 r n))

theorem rowScore_eq (q : BitVec 32) (X : FVec Ideal S8x100000 .f32) (r : Fin 8) (n : ℕ) : rowScore q X r n
    = scoreAt (q + 42#32 + BitVec.ofNat 32 r.val * 100000#32 + BitVec.ofNat 32 n) (X (at2 r n)) := rfl

/-- The columns of the lane `l` up to the chunk `k`. -/
def laneCols (k l : ℕ) (n : ℕ) : Prop := ∃ k', k' ≤ k ∧ n = k' * 512 + l

variable [Facts]

theorem ctr_apply (q : BitVec 32) (r : Fin 8) (l : Fin 512) :
    ctr q (ix2 r l) = q + 42#32 + BitVec.ofNat 32 r.val * 100000#32 + BitVec.ofNat 32 l.val := by
  change q + 42#32 + BitVec.ofNat 32 (0 * 8 + r.val) * 100000#32 + BitVec.ofNat 32 (0 * 512 + l.val) = _
  rw [Nat.zero_mul, Nat.zero_add, Nat.zero_add]

theorem lanes_apply (r : Fin 8) (l : Fin 512) : lanes (ix2 r l) = BitVec.ofNat 32 l.val := by
  change BitVec.ofNat 32 (0 * 512 + l.val) = _
  rw [Nat.zero_mul, Nat.zero_add]

/-- The score of the chunk `k` is the row's, at the chunk's columns. -/
theorem chunkScore_apply (q : BitVec 32) (X : FVec Ideal S8x100000 .f32) (k : ℕ) (r : Fin 8) (l : Fin 512) :
    chunkScore (ctr q) k (chunkOf X k) (ix2 r l) = rowScore q X r (k * 512 + l.val) := by
  refine (score_apply _ _ _).trans ?_
  change scoreAt (ctr q (ix2 r l) + BitVec.ofNat 32 (k * 512)) (X (at2 r (k * 512 + l.val))) = _
  rw [ctr_apply, BitVec.add_assoc, ← BitVec.ofNat_add, Nat.add_comm l.val, rowScore_eq]

/-- The comparison of two scores, as a bit. -/
theorem ogt_apply {s : Shape} (x y : FVec Ideal s .f32) (i : s.Idx) :
    cmpf .ogt x y i = BitVec.ofBool (decide (y i < x i)) := rfl

/-- After the chunk `k` every lane holds the largest of its scores so far and the first of their columns. -/
theorem scan_first (q : BitVec 32) (X : FVec Ideal S8x100000 .f32) (r : Fin 8) (l : Fin 512) (k : ℕ) :
    ∃ c, c < (k + 1) * 512 ∧ IsFirst (rowScore q X r) (laneCols k l.val) c
      ∧ (scan q X k).1 (ix2 r l) = rowScore q X r c ∧ (scan q X k).2 (ix2 r l) = BitVec.ofNat 32 c := by
  have hl := l.isLt
  induction k with
  | zero =>
    refine ⟨l.val, by omega, (IsFirst.single _ _).congr fun n => ⟨?_, ?_⟩, ?_, lanes_apply r l⟩
    · rintro rfl; exact ⟨0, le_rfl, by omega⟩
    · rintro ⟨k', hk, hn⟩; obtain rfl : k' = 0 := by omega
      omega
    · refine (score_apply _ _ _).trans ?_
      change scoreAt (ctr q (ix2 r l)) (X (at2 r (0 * 512 + l.val))) = _
      rw [ctr_apply, Nat.zero_mul, Nat.zero_add, rowScore_eq]
  | succ k ih =>
    obtain ⟨c, hc, hf, hv, hi⟩ := ih
    have hs := chunkScore_apply q X (k + 1) r l
    have hafter : ∀ n m, laneCols k l.val n → m = (k + 1) * 512 + l.val → n < m := by
      rintro n m ⟨k', hk, rfl⟩ rfl; nlinarith
    have hcols : ∀ n, (laneCols k l.val n ∨ n = (k + 1) * 512 + l.val) ↔ laneCols (k + 1) l.val n := by
      intro n
      constructor
      · rintro (⟨k', hk, hn⟩ | hn)
        · exact ⟨k', by omega, hn⟩
        · exact ⟨k + 1, le_rfl, hn⟩
      · rintro ⟨k', hk, hn⟩
        rcases Nat.lt_or_ge k k' with h | h
        · obtain rfl : k' = k + 1 := by omega
          exact Or.inr hn
        · exact Or.inl ⟨k', h, hn⟩
    have hm' : (k + 1) * 512 + l.val < (k + 1 + 1) * 512 := by omega
    have hmax : (scan q X (k + 1)).1 (ix2 r l) = (max (rowScore q X r c) (rowScore q X r ((k + 1) * 512 + l.val)) : EReal) := by
      change max ((scan q X k).1 (ix2 r l)) (chunkScore (ctr q) (k + 1) (chunkOf X (k + 1)) (ix2 r l)) = _
      rw [hv, hs]
    have hidx : (scan q X (k + 1)).2 (ix2 r l) = Scalar.select (BitVec.ofBool (decide
        (rowScore q X r c < rowScore q X r ((k + 1) * 512 + l.val)))) (BitVec.ofNat 32 ((k + 1) * 512 + l.val)) (BitVec.ofNat 32 c) := by
      change Scalar.select (cmpf .ogt (chunkScore (ctr q) (k + 1) (chunkOf X (k + 1))) (scan q X k).1 (ix2 r l))
        (lanes (ix2 r l) + BitVec.ofNat 32 ((k + 1) * 512)) ((scan q X k).2 (ix2 r l)) = _
      rw [ogt_apply, hv, hs, hi, lanes_apply, ← BitVec.ofNat_add, Nat.add_comm l.val]
    clear hs hv hi
    generalize rowScore q X r = f at *
    have hc' : c < (k + 1 + 1) * 512 := hc.trans_le (Nat.mul_le_mul_right 512 (Nat.le_succ (k + 1)))
    by_cases hlt : f c < f ((k + 1) * 512 + l.val)
    · refine ⟨(k + 1) * 512 + l.val, hm', ((hf.later (IsFirst.single _ _) hafter hlt).congr hcols), ?_, ?_⟩
      · exact hmax.trans (max_eq_right hlt.le)
      · rw [hidx, decide_eq_true hlt]; rfl
    · have hle : f ((k + 1) * 512 + l.val) ≤ f c := not_lt.mp hlt
      refine ⟨c, hc', ((hf.earlier (IsFirst.single _ _) hafter hle).congr hcols), ?_, ?_⟩
      · exact hmax.trans (max_eq_left hle)
      · rw [hidx, decide_eq_false hlt]; rfl

/-- A row's element of a one-column array spread over the lanes. -/
theorem spread {n : ℕ} {α : Type} (v : S8x1.Idx → α) (h : S8x1.Broadcasts ⟨2, ![8, n]⟩) (r : Fin 8) (l : Fin n) :
    broadcastTo ⟨2, ![8, n]⟩ v h (ix2 r l) = v (ix2 r 0) :=
  broadcastTo_apply v h (ix2 r l) (ix2 r 0) fun ax => by
    match ax with
    | ⟨0, _⟩ => rfl
    | ⟨1, _⟩ => rfl

/-- The comparison with the row's maximum, as a bit: an index where the lane holds it, and the largest word elsewhere. -/
theorem pick (y m : EReal) (a b : BitVec 32) :
    Scalar.select (BitVec.ofBool (decide (y = m))) a b = if y = m then a else b := by
  by_cases h : y = m
  · rw [decide_eq_true h, if_pos h]; rfl
  · rw [decide_eq_false h, if_neg h]; rfl

/-- The comparison for equality, as a bit. -/
theorem oeq_apply {s : Shape} (x y : FVec Ideal s .f32) (i : s.Idx) :
    cmpf .oeq x y i = BitVec.ofBool (decide ((x i : EReal) = y i)) := rfl

/-- The chunks' winner: the first place of the largest score of the first 99840 columns. -/
theorem fold_first (q : BitVec 32) (X : FVec Ideal S8x100000 .f32) (r : Fin 8) :
    ∃ c, foldMax (scan q X 194).1 (ix2 r 0) = rowScore q X r c
      ∧ foldIdx (scan q X 194).1 (scan q X 194).2 (ix2 r 0) = BitVec.ofNat 32 c
      ∧ IsFirst (rowScore q X r) (· < 99840) c := by
  choose C hC hF hV hI using fun l : Fin 512 => scan_first q X r l 194
  have hm := row_max reduces_S8x512_S8 shapeCasts_S8_S8x1 (scan q X 194).1 r 0
  obtain ⟨c, h1, h2, h3⟩ := row_first (rowScore q X r) (fun l => laneCols 194 l.val) C
    (fun l : Fin 512 => (scan q X 194).1 (ix2 r l)) (fun l => select (cmpf .oeq (scan q X 194).1
      (broadcastTo S8x512 (foldMax (scan q X 194).1) broadcasts_S8x1_S8x512)) (scan q X 194).2
        (broadcast S8x512 2147483647#32) (ix2 r l)) hF hV (fun l => by
      change Scalar.select (cmpf .oeq _ _ (ix2 r l)) ((scan q X 194).2 (ix2 r l)) 2147483647#32 = _
      rw [oeq_apply, spread, pick, hI, ← hm]
      rfl) (fun l => by have := hC l; omega)
  refine ⟨c, hm.trans h1, (row_min reduces_S8x512_S8 shapeCasts_S8_S8x1 _ r 0).trans h2, h3.congr fun n => ?_⟩
  constructor
  · rintro ⟨l, k, hk, rfl⟩; have := l.isLt; omega
  · intro hn
    exact ⟨⟨n % 512, Nat.mod_lt _ (by norm_num)⟩, n / 512, by omega, by
      change n = n / 512 * 512 + n % 512; omega⟩

/-- The remainder's winner: the first place of the largest score of the last 160 columns. -/
theorem rem_first (q : BitVec 32) (X : FVec Ideal S8x100000 .f32) (r : Fin 8) :
    ∃ c, remMax (remScore q (remOf X)) (ix2 r 0) = rowScore q X r c
      ∧ remIdx (remScore q (remOf X)) (ix2 r 0) = BitVec.ofNat 32 c
      ∧ IsFirst (rowScore q X r) (fun n => 99840 ≤ n ∧ n < 100000) c := by
  have hV : ∀ l : Fin 160, remScore q (remOf X) (ix2 r l) = rowScore q X r (99840 + l.val) := by
    intro l
    refine (score_apply _ _ _).trans ?_
    change scoreAt (q + 42#32 + BitVec.ofNat 32 (0 * 8 + r.val) * 100000#32 + BitVec.ofNat 32 (0 * 160 + l.val)
      + BitVec.ofNat 32 99840) (X (at2 r (99840 + l.val))) = _
    rw [Nat.zero_mul, Nat.zero_add, Nat.zero_add, BitVec.add_assoc, ← BitVec.ofNat_add, Nat.add_comm l.val, rowScore_eq]
  have hm := row_max reduces_S8x160_S8 shapeCasts_S8_S8x1 (remScore q (remOf X)) r 0
  obtain ⟨c, h1, h2, h3⟩ := row_first (rowScore q X r) (fun l n => n = 99840 + l.val) (fun l => 99840 + l.val)
    (fun l : Fin 160 => remScore q (remOf X) (ix2 r l)) (fun l => select (cmpf .oeq (remScore q (remOf X))
      (broadcastTo S8x160 (remMax (remScore q (remOf X))) broadcasts_S8x1_S8x160))
        (addi (iota .tc S8x160 32 [1] iota_S8x160_d1_w32) (broadcast S8x160 99840#32))
        (broadcast S8x160 2147483647#32) (ix2 r l)) (fun l => IsFirst.single _ _) hV (fun l => by
      change Scalar.select (cmpf .oeq _ _ (ix2 r l)) (BitVec.ofNat 32 (0 * 160 + l.val) + BitVec.ofNat 32 99840) 2147483647#32 = _
      rw [oeq_apply, spread, pick, ← BitVec.ofNat_add, Nat.zero_mul, Nat.zero_add, Nat.add_comm l.val, ← hm]
      rfl) (fun l => by have := l.isLt; omega)
  refine ⟨c, hm.trans h1, (row_min reduces_S8x160_S8 shapeCasts_S8_S8x1 _ r 0).trans h2, h3.congr fun n => ?_⟩
  constructor
  · rintro ⟨l, rfl⟩; have := l.isLt; omega
  · intro hn
    exact ⟨⟨n - 99840, by omega⟩, by change n = 99840 + (n - 99840); omega⟩

/-- The winning column of a row is the first place of the row's largest score. -/
theorem winner_first (q : BitVec 32) (X : FVec Ideal S8x100000 .f32) (r : Fin 8) :
    ∃ c, winner q X (ix2 r 0) = BitVec.ofNat 32 c ∧ IsFirst (rowScore q X r) (· < 100000) c := by
  obtain ⟨c, hM, hI, hF⟩ := fold_first q X r
  obtain ⟨d, hM', hI', hF'⟩ := rem_first q X r
  have hw : winner q X (ix2 r 0) = Scalar.select (BitVec.ofBool (decide (rowScore q X r c < rowScore q X r d)))
      (BitVec.ofNat 32 d) (BitVec.ofNat 32 c) := by
    rw [← hM, ← hM', ← hI, ← hI']; rfl
  have hcols : ∀ n, (n < 99840 ∨ 99840 ≤ n ∧ n < 100000) ↔ n < 100000 := fun n => by omega
  have hafter : ∀ n m, n < 99840 → 99840 ≤ m ∧ m < 100000 → n < m := fun n m => by omega
  clear hM hM' hI hI'
  generalize rowScore q X r = f at *
  by_cases hlt : f c < f d
  · exact ⟨d, by rw [hw, decide_eq_true hlt]; rfl, (hF.later hF' hafter hlt).congr hcols⟩
  · have hle : f d ≤ f c := not_lt.mp hlt
    exact ⟨c, by rw [hw, decide_eq_false hlt]; rfl, (hF.earlier hF' hafter hle).congr hcols⟩

end Cert.Proof.Winner

end
-- ==== Proof.ArgMax.lean ====
/-
  The reference's arg-max of a row is the first place of the row's largest value.
-/
module

public import proofs.«01_k».proof.Proof.First
public import proofs.«01_k».proof.Proof.Ref

@[expose] public section

noncomputable section

namespace Cert.Proof.ArgMax

open Cert.ReferenceIdeal
open Idealize.ShloMosaic Idealize.ShloMosaic.ValueIdx

/-- The pair `p` of a value and its column comes before `q`, or is it: its value is larger, or the same in no later column. -/
def Dom (p q : EReal × BitVec 32) : Prop := q.1 < p.1 ∨ q.1 = p.1 ∧ p.2.toNat ≤ q.2.toNat

theorem Dom.refl (p : EReal × BitVec 32) : Dom p p := Or.inr ⟨rfl, le_rfl⟩

theorem Dom.trans {p q s : EReal × BitVec 32} (h : Dom p q) (h' : Dom q s) : Dom p s := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- The arg-max's body at the ideal values. -/
theorem body_eq (a b : EReal × BitVec 32) : reducer_argmax_f32_i32 (F := Ideal) a b =
    (Scalar.select (BitVec.ofBool (decide (b.1 < a.1)) ||| BitVec.ofBool (decide (a.1 ≠ a.1))) a.1 b.1,
     Scalar.select ((BitVec.ofBool (decide (b.1 < a.1)) ||| BitVec.ofBool (decide (a.1 ≠ a.1)))
       ||| (BitVec.ofBool (decide (a.1 = b.1)) &&& BitVec.ofBool (a.2.slt b.2))) a.2 b.2) := rfl

/-- The body gives one of its two pairs, and it comes before both. -/
theorem body_dom (a b : EReal × BitVec 32) (ha : a.2.toNat < 2147483648) (hb : b.2.toNat < 2147483648) :
    (reducer_argmax_f32_i32 (F := Ideal) a b = a ∨ reducer_argmax_f32_i32 (F := Ideal) a b = b)
      ∧ Dom (reducer_argmax_f32_i32 (F := Ideal) a b) a ∧ Dom (reducer_argmax_f32_i32 (F := Ideal) a b) b := by
  have hs : a.2.slt b.2 = true ↔ a.2.toNat < b.2.toNat := by
    rw [BitVec.slt_iff_toInt_lt, BitVec.toInt_eq_toNat_of_lt (by omega), BitVec.toInt_eq_toNat_of_lt (by omega)]
    exact Int.ofNat_lt
  have hne : decide (a.1 ≠ a.1) = false := decide_eq_false (fun h => h rfl)
  rw [body_eq, hne]
  rcases lt_trichotomy b.1 a.1 with h | h | h
  · have e : decide (b.1 < a.1) = true := decide_eq_true h
    have e' : decide (a.1 = b.1) = false := decide_eq_false h.ne'
    rw [e, e']
    have : (Scalar.select (BitVec.ofBool true ||| BitVec.ofBool false) a.1 b.1, Scalar.select ((BitVec.ofBool true
      ||| BitVec.ofBool false) ||| (BitVec.ofBool false &&& BitVec.ofBool (a.2.slt b.2))) a.2 b.2) = a := by
      cases a.2.slt b.2 <;> rfl
    rw [this]
    exact ⟨Or.inl rfl, Dom.refl a, Or.inl h⟩
  · have e : decide (b.1 < a.1) = false := decide_eq_false h.not_lt
    have e' : decide (a.1 = b.1) = true := decide_eq_true h.symm
    rw [e, e']
    by_cases hlt : a.2.slt b.2 = true
    · have : (Scalar.select (BitVec.ofBool false ||| BitVec.ofBool false) a.1 b.1, Scalar.select ((BitVec.ofBool false
        ||| BitVec.ofBool false) ||| (BitVec.ofBool true &&& BitVec.ofBool (a.2.slt b.2))) a.2 b.2) = a := by
        rw [hlt]; exact Prod.ext h rfl
      rw [this]
      exact ⟨Or.inl rfl, Dom.refl a, Or.inr ⟨h, (hs.mp hlt).le⟩⟩
    · have hf : a.2.slt b.2 = false := Bool.not_eq_true _ ▸ hlt
      have : (Scalar.select (BitVec.ofBool false ||| BitVec.ofBool false) a.1 b.1, Scalar.select ((BitVec.ofBool false
        ||| BitVec.ofBool false) ||| (BitVec.ofBool true &&& BitVec.ofBool (a.2.slt b.2))) a.2 b.2) = b := by
        rw [hf]; rfl
      rw [this]
      exact ⟨Or.inr rfl, Or.inr ⟨h.symm, not_lt.mp fun hk => hlt (hs.mpr hk)⟩, Dom.refl b⟩
  · have e : decide (b.1 < a.1) = false := decide_eq_false h.not_gt
    have e' : decide (a.1 = b.1) = false := decide_eq_false h.ne
    rw [e, e']
    have : (Scalar.select (BitVec.ofBool false ||| BitVec.ofBool false) a.1 b.1, Scalar.select ((BitVec.ofBool false
      ||| BitVec.ofBool false) ||| (BitVec.ofBool false &&& BitVec.ofBool (a.2.slt b.2))) a.2 b.2) = b := by
      cases a.2.slt b.2 <;> rfl
    rw [this]
    exact ⟨Or.inr rfl, Or.inl h, Dom.refl b⟩

/-- The fold of the body over a list gives the initial pair or one of the list's, and it comes before all. -/
theorem fold_dom (l : List (EReal × BitVec 32)) (init : EReal × BitVec 32) (h0 : init.2.toNat < 2147483648)
    (hl : ∀ p ∈ l, p.2.toNat < 2147483648) :
    (l.foldl (reducer_argmax_f32_i32 (F := Ideal)) init = init ∨ l.foldl (reducer_argmax_f32_i32 (F := Ideal)) init ∈ l)
      ∧ Dom (l.foldl (reducer_argmax_f32_i32 (F := Ideal)) init) init
      ∧ ∀ p ∈ l, Dom (l.foldl (reducer_argmax_f32_i32 (F := Ideal)) init) p := by
  induction l generalizing init with
  | nil => exact ⟨Or.inl rfl, Dom.refl _, fun p hp => absurd hp (List.not_mem_nil)⟩
  | cons b l ih =>
    obtain ⟨hb, ha, hbb⟩ := body_dom init b h0 (hl b List.mem_cons_self)
    have h1 : (reducer_argmax_f32_i32 (F := Ideal) init b).2.toNat < 2147483648 := by
      rcases hb with h | h
      · rw [h]; exact h0
      · rw [h]; exact hl b List.mem_cons_self
    obtain ⟨k0, k1, k2⟩ := ih (reducer_argmax_f32_i32 (F := Ideal) init b) h1 fun p hp => hl p (List.mem_cons_of_mem _ hp)
    rw [List.foldl_cons]
    refine ⟨?_, k1.trans ha, fun p hp => ?_⟩
    · rcases k0 with k | k
      · rcases hb with h | h
        · exact Or.inl (k.trans h)
        · exact Or.inr (by rw [k, h]; exact List.mem_cons_self)
      · exact Or.inr (List.mem_cons_of_mem _ k)
    · rcases List.mem_cons.mp hp with rfl | hp
      · exact k1.trans hbb
      · exact k2 p hp

theorem red : S128x100000.Reduces [1] S128 := by decide

/-- The entry of the array in row `r` and column `n`. -/
abbrev at128 (r : Fin 128) (n : ℕ) : S128x100000.Idx := ix2 r (⟨n % 100000, Nat.mod_lt _ (by norm_num)⟩ : Fin 100000)

/-- The indices that reduce to the row `r` are the row's. -/
theorem drop_iff (h : S128x100000.ReducesTo [1] S128) (i : S128x100000.Idx) (r : Fin 128) :
    h.drop i = ix1 r ↔ ∃ l : Fin 100000, i = ix2 r l := by
  rw [Shape.ReducesTo.drop_eq_drop h red]
  constructor
  · intro e
    exact ⟨i 1, by have := red.lift_drop i; rw [e] at this; exact this.symm.trans (lift_row red r (i 1))⟩
  · rintro ⟨l, rfl⟩
    rw [← lift_row red r l]
    exact red.drop_lift (ix1 r) l

/-- The pairs a reduction of pairs takes at an index are those at the indices that reduce to it. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, decide_eq_true ?_⟩, ?_⟩
    · rw [Equiv.symm_apply_apply]; exact hi
    · rw [Equiv.symm_apply_apply]

theorem column (r : Fin 128) (l : Fin 100000) :
    iotaInDim S128x100000 32 1 (ix2 r l) = BitVec.ofNat 32 l.val := rfl

/-- A reduction of pairs of an ideal value and a number, as the fold over its pairs. -/
theorem reduce_fold {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) (j : t.Idx) (p : EReal × BitVec 32) (hp : ((ix (Shape.Idx.first hu) : EReal), iy (Shape.Idx.first hu)) = p) :
    (Host.argReduce (φ := .f32) f x y ix iy h hu j).2
      = ((Host.argReduceFiber x y h j : List (EReal × BitVec 32)).foldl f p).2 := by
  rw [← hp]
  exact congrArg Prod.snd ((congrFun (Ideal.argReduce_eq_reduce2 (φ := .f32) f x y ix iy h hu) j).trans
    (Host.reduce2_eq_foldl_fiber f x y ix iy h hu j))

/-- The initial pair. -/
theorem init_eq : ((constant (F := Ideal) S_ .f32 0xFF800000#32 (Shape.Idx.first Gen.facts.h_S_) : EReal),
    constantI S_ 32 0#32 (Shape.Idx.first Gen.facts.h_S_)) = ((⊥ : EReal), 0#32) :=
  Prod.ext Hash.ofBits_bot rfl

/-- The arg-max is the column of the reduction's pair. -/
theorem argmax_fun {F : FTy → Type} [FloatOps F] (z : FVec F S128x100000 .f32) :
    Ref.argmax z = fun j => (Host.argReduce reducer_argmax_f32_i32 z (iotaInDim S128x100000 32 1)
      (constant S_ .f32 0xFF800000#32) (constantI S_ 32 0#32) Gen.facts.reducesTo_S128x100000_S128_d1 Gen.facts.h_S_ j).2 := rfl

/-- The arg-max of a row, as the fold over its pairs. -/
theorem argmax_eq (z : FVec Ideal S128x100000 .f32) (j : S128.Idx) :
    Ref.argmax z j = ((Host.argReduceFiber z (iotaInDim S128x100000 32 1) Gen.facts.reducesTo_S128x100000_S128_d1 j :
      List (EReal × BitVec 32)).foldl (reducer_argmax_f32_i32 (F := Ideal)) ((⊥ : EReal), 0#32)).2 :=
  (congrFun (argmax_fun z) j).trans
    (reduce_fold (reducer_argmax_f32_i32 (F := Ideal)) z (iotaInDim S128x100000 32 1) (constant S_ .f32 0xFF800000#32)
      (constantI S_ 32 0#32) Gen.facts.reducesTo_S128x100000_S128_d1 Gen.facts.h_S_ j _ init_eq)

/-- The entry of a row at one of its columns. -/
theorem at128_eq (r : Fin 128) (n : ℕ) (h : n < 100000) : at128 r n = ix2 r (⟨n, h⟩ : Fin 100000) :=
  congrArg (ix2 r) (Fin.ext (Nat.mod_eq_of_lt h))

/-- The fold over the pairs of `N` values and their numbers gives the first place of the largest value. -/
theorem fold_first (f : ℕ → EReal) (N : ℕ) (hN : N ≤ 2147483648) (L : List (EReal × BitVec 32))
    (hmem : ∀ p, p ∈ L ↔ ∃ l, l < N ∧ p = (f l, BitVec.ofNat 32 l)) (l0 : ℕ) (hl0 : l0 < N) (hbig : ⊥ < f l0) :
    ∃ c, (L.foldl (reducer_argmax_f32_i32 (F := Ideal)) ((⊥ : EReal), 0#32)).2 = BitVec.ofNat 32 c
      ∧ IsFirst f (· < N) c := by
  have hn : ∀ l, l < N → (BitVec.ofNat 32 l).toNat = l := fun l hl => by
    rw [BitVec.toNat_ofNat]; exact Nat.mod_eq_of_lt (by omega)
  obtain ⟨h0, -, h2⟩ := fold_dom L ((⊥ : EReal), 0#32) (by decide) (fun p hp => by
    obtain ⟨l, hl, rfl⟩ := (hmem p).mp hp
    exact (hn l hl).trans_lt (by omega))
  generalize L.foldl (reducer_argmax_f32_i32 (F := Ideal)) ((⊥ : EReal), 0#32) = R at *
  have hR : R ∈ L := by
    rcases h0 with h | h
    · exfalso
      have := h2 _ ((hmem _).mpr ⟨l0, hl0, rfl⟩)
      rw [h] at this
      rcases this with k | ⟨k, -⟩
      · exact absurd k not_lt_bot
      · exact absurd k hbig.ne'
    · exact h
  obtain ⟨c, hc, rfl⟩ := (hmem R).mp hR
  have hdom : ∀ n, n < N → f n < f c ∨ f n = f c ∧ c ≤ n := by
    intro n h
    rcases h2 _ ((hmem _).mpr ⟨n, h, rfl⟩) with k | ⟨k, k'⟩
    · exact Or.inl k
    · exact Or.inr ⟨k, by rwa [← hn c hc, ← hn n h]⟩
  refine ⟨c, rfl, hc, fun n h => ?_, fun n h hlt => ?_⟩
  · rcases hdom n h with k | ⟨k, -⟩
    · exact k.le
    · exact k.le
  · rcases hdom n h with k | ⟨-, k⟩
    · exact k
    · exact absurd hlt (not_lt.mpr k)

/-- The pairs of the row `r`: its entries and their columns. -/
theorem mem_row (z : FVec Ideal S128x100000 .f32) (h : S128x100000.ReducesTo [1] S128) (r : Fin 128) (p : EReal × BitVec 32) :
    p ∈ Host.argReduceFiber z (iotaInDim S128x100000 32 1) h (ix1 r)
      ↔ ∃ l, l < 100000 ∧ p = ((z (at128 r l) : EReal), BitVec.ofNat 32 l) := by
  rw [mem_fiber]
  constructor
  · rintro ⟨i, hi, rfl⟩
    obtain ⟨l, rfl⟩ := (drop_iff h i r).mp hi
    refine ⟨l.val, l.isLt, ?_⟩
    rw [column, at128_eq r l.val l.isLt]
  · rintro ⟨l, hl, rfl⟩
    refine ⟨ix2 r ⟨l, hl⟩, (drop_iff h _ r).mpr ⟨⟨l, hl⟩, rfl⟩, ?_⟩
    rw [column, at128_eq r l hl]

/-- The arg-max of a row that has an entry above −∞ is the first place of its largest entry. -/
theorem argmax_first (z : FVec Ideal S128x100000 .f32) (r : Fin 128) (l0 : ℕ) (h0 : l0 < 100000)
    (hbig : (⊥ : EReal) < z (at128 r l0)) :
    ∃ c, Ref.argmax z (ix1 r) = BitVec.ofNat 32 c ∧ IsFirst (fun n => z (at128 r n)) (· < 100000) c := by
  rw [argmax_eq z (ix1 r)]
  exact fold_first (fun n => z (at128 r n)) 100000 (by norm_num) _ (mem_row z _ r) l0 h0 hbig

end Cert.Proof.ArgMax

end
-- ==== Proof.RefVal.lean ====
/-
  The reference's values in a row whose largest entry is finite: the softmax is real, and the perturbed logits are the
  kernel's scores shifted by one real number.
-/
module

public import proofs.«01_k».proof.Proof.First
public import proofs.«01_k».proof.Proof.Ref
public import proofs.«01_k».proof.Proof.Gen.Pre_finite_max
public import Idealize.ShloMosaic.Lib.KernelVsHost
public import Idealize.ShloMosaic.Lib.ReduceAll

@[expose] public section

noncomputable section

namespace Cert.Proof.RefVal

open Cert.ReferenceIdeal
open Idealize.ShloMosaic Idealize.ShloMosaic.ValueIdx

/-! ## A row of extended reals with a finite maximum -/

/-- A finite sum of reals, as an extended real. -/
theorem coe_sum {n : ℕ} (e : Fin n → ℝ) : ∑ k, (e k : EReal) = ((∑ k, e k : ℝ) : EReal) := by
  have : ∀ s : Finset (Fin n), ∑ k ∈ s, (e k : EReal) = ((∑ k ∈ s, e k : ℝ) : EReal) := by
    intro s
    classical
    induction s using Finset.induction with
    | empty => simp
    | insert a s ha ih => rw [Finset.sum_insert ha, Finset.sum_insert ha, ih, EReal.coe_add]
  exact this Finset.univ

/-- The weight of an entry: zero if the entry is −∞, and a positive real otherwise. -/
theorem weight (x : EReal) (m : ℝ) (h : x ≤ m) : ∃ e : ℝ, Ideal.exp (x - m) = (e : EReal)
    ∧ (x = ⊥ ∧ e = 0 ∨ ∃ y : ℝ, x = y ∧ e = Real.exp (y - m)) := by
  induction x using EReal.rec with
  | bot => exact ⟨0, by rw [EReal.bot_sub]; rfl, Or.inl ⟨rfl, rfl⟩⟩
  | coe y => exact ⟨Real.exp (y - m), by rw [← EReal.coe_sub]; rfl, Or.inr ⟨y, rfl, rfl⟩⟩
  | top => exact absurd h (not_le.mpr (EReal.coe_lt_top m))

/-- A quotient of reals, the divisor positive. -/
theorem div_coe (e z : ℝ) (hz : 0 < z) : Ideal.div (e : EReal) (z : EReal) = ((e / z : ℝ) : EReal) := by
  have hne : (z : EReal) ≠ 0 := by
    rw [← EReal.coe_zero]; exact fun h => hz.ne' (EReal.coe_injective h)
  unfold Ideal.div
  rw [if_neg hne, ← EReal.coe_inv, ← EReal.coe_mul, div_eq_mul_inv]

/-- The softmax of a row whose maximum is the real `m`: every value is real, and its logarithm is the entry plus one
    real number. -/
theorem soft {n : ℕ} (a : Fin n → EReal) (m : ℝ) (ha : ∀ l, a l ≤ m) (l0 : Fin n) (h0 : a l0 = m) :
    ∃ C : ℝ, ∀ l, Ideal.div (Ideal.exp (a l - m)) (0 + ∑ k, Ideal.exp (a k - m))
        - Ideal.div (Ideal.exp (a l - m)) (0 + ∑ k, Ideal.exp (a k - m)) = 0
      ∧ Ideal.log (Ideal.div (Ideal.exp (a l - m)) (0 + ∑ k, Ideal.exp (a k - m))) = a l + (C : EReal) := by
  choose e he hc using fun l => weight (a l) m (ha l)
  have hnn : ∀ l, 0 ≤ e l := fun l => by
    rcases hc l with ⟨-, h⟩ | ⟨y, -, h⟩
    · exact h.ge
    · rw [h]; exact (Real.exp_pos _).le
  have hpos : 0 < e l0 := by
    rcases hc l0 with ⟨h, -⟩ | ⟨y, -, h⟩
    · rw [h0] at h; exact absurd h (EReal.coe_ne_bot m)
    · rw [h]; exact Real.exp_pos _
  have hz : 0 < ∑ k, e k := Finset.sum_pos' (fun l _ => hnn l) ⟨l0, Finset.mem_univ _, hpos⟩
  have hsum : (0 : EReal) + ∑ k, Ideal.exp (a k - m) = ((∑ k, e k : ℝ) : EReal) := by
    rw [zero_add, ← coe_sum]; exact Finset.sum_congr rfl fun k _ => he k
  rw [hsum]
  generalize (∑ k, e k) = z at hz
  refine ⟨-m - Real.log z, fun l => ?_⟩
  rw [he l, div_coe _ _ hz]
  refine ⟨by rw [← EReal.coe_sub, sub_self]; rfl, ?_⟩
  rcases hc l with ⟨h, h'⟩ | ⟨y, h, h'⟩
  · rw [h, h', zero_div, EReal.bot_add]
    exact if_pos le_rfl
  · rw [h, h', Hash.log_coe _ (div_pos (Real.exp_pos _) hz), Real.log_div (Real.exp_ne_zero _) hz.ne', Real.log_exp, ← EReal.coe_add]
    congr 1
    ring

/-! ## The reference's arrays, entry by entry -/

theorem red : S128x100000.Reduces [1] S128 := by decide

/-- The largest entry of a row. -/
def rowMax (A : FVec Ideal S128x100000 .f32) (r : Fin 128) : EReal :=
  Finset.univ.fold max (⊥ : EReal) fun l : Fin 100000 => A (ix2 r l)

/-- The reduction by the maximum gives the rows' largest entries. -/
theorem reduce_max (A : FVec Ideal S128x100000 .f32) {u : Shape} (h : S128x100000.ReducesTo [1] S128) (hu : 0 < u.numel)
    (r : Fin 128) :
    Host.reduce FloatOps.maximumf A (constant (F := Ideal) u .f32 0xFF800000#32) h hu (ix1 r) = rowMax A r := by
  rw [hostReduce_maximumf_eq_multiReduction A 0xFF800000#32 h hu red (.inl rfl) rfl]
  refine (Ideal.multiReduction_maximumf_single A _ red (.inl rfl) rfl (ix1 r)).trans ?_
  change Finset.univ.fold max (Ideal.ofBits .f32 0xFF800000#32) (A ∘ red.lift (ix1 r)) = _
  rw [Hash.ofBits_bot]
  exact congrArg (fun y => Finset.univ.fold max (⊥ : EReal) y) (funext fun l => congrArg A (lift_row red r l))

theorem pre_fun {F : FTy → Type} [FloatOps F] (A : FVec F Cert.Pre_finite_max.S128x100000 .f32) :
    Cert.Pre_finite_max.fn A = Host.reduce IntOp.andi
      (andi (cmpf .ogt (Host.reduce FloatOps.maximumf A (constant Cert.Pre_finite_max.S_ .f32 0xFF800000#32)
          Cert.Pre_finite_max.Facts.reducesTo_S128x100000_S128_d1 Cert.Pre_finite_max.Facts.h_S_)
          (broadcastInDim Cert.Pre_finite_max.S128 ![] Cert.Pre_finite_max.Facts.bcast_S_S128 (constant Cert.Pre_finite_max.S_ .f32 0xFF800000#32)))
        (cmpf .olt (Host.reduce FloatOps.maximumf A (constant Cert.Pre_finite_max.S_ .f32 0xFF800000#32)
          Cert.Pre_finite_max.Facts.reducesTo_S128x100000_S128_d1 Cert.Pre_finite_max.Facts.h_S_)
          (broadcastInDim Cert.Pre_finite_max.S128 ![] Cert.Pre_finite_max.Facts.bcast_S_S128 (constant Cert.Pre_finite_max.S_ .f32 0x7F800000#32))))
      (constantI Cert.Pre_finite_max.S_ 1 1#1) Cert.Pre_finite_max.Facts.reducesTo_S128_S_d0 Cert.Pre_finite_max.Facts.h_S_ := rfl

/-- Two comparisons of a vector with constants, at an index. -/
theorem between (v : FVec Ideal S128 .f32) (b c : FVec Ideal S128 .f32) (i : S128.Idx) :
    andi (cmpf .ogt v b) (cmpf .olt v c) i
      = IntOp.andi (BitVec.ofBool (decide ((b i : EReal) < v i))) (BitVec.ofBool (decide ((v i : EReal) < c i))) := rfl

instance : Subsingleton Cert.Pre_finite_max.S_.Idx := ⟨fun i j => funext fun a => a.elim0⟩

/-- The precondition's bit at a row. -/
theorem all_rows (A : FVec Ideal S128x100000 .f32) (h : Cert.Pre_finite_max.fn (F := Ideal) A = fun _ => 1#1) (r : Fin 128)
    (M : FVec Ideal S128 .f32) (hM : M = Host.reduce FloatOps.maximumf A
        (constant (F := Ideal) Cert.Pre_finite_max.S_ .f32 0xFF800000#32)
        Cert.Pre_finite_max.Facts.reducesTo_S128x100000_S128_d1 Cert.Pre_finite_max.Facts.h_S_) :
    IntOp.andi (BitVec.ofBool (decide (Ideal.ofBits .f32 0xFF800000#32 < (M (ix1 r) : EReal))))
      (BitVec.ofBool (decide ((M (ix1 r) : EReal) < Ideal.ofBits .f32 0x7F800000#32))) = 1#1 := by
  rw [pre_fun, ← hM] at h
  have e := Host.reduce_andi_all _ _ _ _ ix0 (congrFun h ix0) (ix1 r)
  rw [between] at e
  exact e

/-- The precondition read at a row: its largest entry is finite. -/
theorem finite (A : FVec Ideal S128x100000 .f32) (h : Cert.Pre_finite_max.fn (F := Ideal) A = fun _ => 1#1) (r : Fin 128) :
    ∃ m : ℝ, rowMax A r = (m : EReal) := by
  have e1 : IntOp.andi (BitVec.ofBool (decide (Ideal.ofBits .f32 0xFF800000#32 < rowMax A r)))
      (BitVec.ofBool (decide (rowMax A r < Ideal.ofBits .f32 0x7F800000#32))) = 1#1 := by
    rw [← reduce_max A (u := Cert.Pre_finite_max.S_) Cert.Pre_finite_max.Facts.reducesTo_S128x100000_S128_d1 Cert.Pre_finite_max.Facts.h_S_ r]
    exact all_rows A h r _ rfl
  rw [Hash.ofBits_bot, Hash.ofBits_top] at e1
  generalize rowMax A r = M at *
  induction M using EReal.rec with
  | bot => rw [decide_eq_false (lt_irrefl _)] at e1; exact absurd e1 (by cases decide ((⊥ : EReal) < ⊤) <;> decide)
  | coe m => exact ⟨m, rfl⟩
  | top => rw [decide_eq_false (lt_irrefl (⊤ : EReal))] at e1; exact absurd e1 (by cases decide ((⊥ : EReal) < ⊤) <;> decide)

/-- A row's value spread over the row. -/
theorem spread {α : Type} (v : S128.Idx → α) (h : S128x1.BroadcastsInDim S128x100000 (![0, 1] : Fin 2 → Fin 2))
    (h' : S128.BroadcastsInDim S128x1 (![0] : Fin 1 → Fin 2)) (r : Fin 128) (l : Fin 100000) :
    broadcastInDim S128x100000 ![0, 1] h (broadcastInDim S128x1 ![0] h' v) (ix2 r l) = v (ix1 r) := by
  refine congrArg v (funext fun a => Fin.ext ?_)
  match a with
  | ⟨0, _⟩ => rfl

theorem allF_apply (a : BitVec 32) (i : S128x100000.Idx) : (Ref.allF (F := Ideal) a i : EReal) = Ideal.ofBits .f32 a := rfl

/-- A product with one. -/
theorem mul_one_row (A : FVec Ideal S128x100000 .f32) : mulf A (Ref.allF 0x3F800000#32) = A := by
  funext i
  rw [mulf_apply, allF_apply, Hash.ofBits_one, EReal.coe_one, mul_one]

theorem broadcast_bot (a : BitVec 32) (h : S_.BroadcastsInDim S128 (![] : Fin 0 → Fin 1)) (i : S128.Idx) :
    (broadcastInDim S128 ![] h (constant (F := Ideal) S_ .f32 a) i : EReal) = Ideal.ofBits .f32 a := rfl

/-- The entries shifted by their row's largest. -/
theorem shifted_apply (A : FVec Ideal S128x100000 .f32) (r : Fin 128) (l : Fin 100000) :
    Ref.shifted A (ix2 r l) = A (ix2 r l) - rowMax A r := by
  unfold Ref.shifted
  rw [mul_one_row, subf_apply, spread, maximumf_apply, reduce_max,
    broadcast_bot, Hash.ofBits_bot, bot_sup_eq]

theorem hostExp_apply (x : FVec Ideal S128x100000 .f32) (i : S128x100000.Idx) : (Host.exp x i : EReal) = Ideal.exp (x i) := rfl

theorem hostLog_apply (x : FVec Ideal S128x100000 .f32) (i : S128x100000.Idx) : (Host.log x i : EReal) = Ideal.log (x i) := rfl

theorem hostDivf_apply (x y : FVec Ideal S128x100000 .f32) (i : S128x100000.Idx) :
    (Host.divf x y i : EReal) = Ideal.div (x i) (y i) := rfl

/-- The reduction by addition gives the rows' sums. -/
theorem sum_apply (x : FVec Ideal S128x100000 .f32) (h : S128x100000.ReducesTo [1] S128) (hu : 0 < S_.numel) (r : Fin 128) :
    (Host.reduceAdd x (constant (F := Ideal) S_ .f32 0x00000000#32) h hu (ix1 r) : EReal) = 0 + ∑ k : Fin 100000, x (ix2 r k) := by
  refine (Ideal.hostReduceAdd_single h red x _ (ix1 r)).trans ?_
  change Ideal.ofBits .f32 0x00000000#32 + ∑ k : Fin 100000, x (red.lift (ix1 r) k) = _
  rw [Ideal.ofBits_zero_f32]
  exact congrArg (0 + ·) (Finset.sum_congr rfl fun k _ => congrArg x (lift_row red r k))

/-- The softmax, entry by entry. -/
theorem softmax_apply (A : FVec Ideal S128x100000 .f32) (r : Fin 128) (l : Fin 100000) :
    (Ref.softmax A (ix2 r l) : EReal) = Ideal.div (Ideal.exp (A (ix2 r l) - rowMax A r))
      (0 + ∑ k : Fin 100000, Ideal.exp (A (ix2 r k) - rowMax A r)) := by
  unfold Ref.softmax
  rw [hostDivf_apply, spread, hostExp_apply, shifted_apply, sum_apply]
  refine congrArg (Ideal.div _) (congrArg (0 + ·) (Finset.sum_congr rfl fun k _ => ?_))
  rw [hostExp_apply, shifted_apply]

/-- In a row whose largest entry is finite the softmax is real, and its logarithm is the entry plus one real number. -/
theorem softmax_row (A : FVec Ideal S128x100000 .f32) (r : Fin 128) (m : ℝ) (hm : rowMax A r = m) :
    ∃ C : ℝ, ∀ l : Fin 100000, (Ref.softmax A (ix2 r l) : EReal) - Ref.softmax A (ix2 r l) = 0
      ∧ Ideal.log (Ref.softmax A (ix2 r l)) = A (ix2 r l) + (C : EReal) := by
  obtain ⟨hle, l0, h0⟩ := fold_max fun l : Fin 100000 => A (ix2 r l)
  obtain ⟨C, hC⟩ := soft (fun l : Fin 100000 => A (ix2 r l)) m (fun l => hm ▸ hle l) l0 (h0.symm.trans hm)
  refine ⟨C, fun l => ?_⟩
  rw [softmax_apply, hm]
  exact hC l

/-- The bits of the uniform draw are the kernel's, of the shifted counter. -/
theorem bits_eq : ori (Host.shrui (xori Ref.words.1 Ref.words.2) (Ref.all 9#32)) (Ref.all 1065353216#32)
    = Body.bits Ref.start.2 := by
  rw [Hash.words_eq]
  unfold Body.bits
  generalize Body.hash Ref.start.2 = B
  funext i
  show IntOp.ori (IntOp.shrui .host (B i) 9#32) 1065353216#32 = IntOp.ori (IntOp.shrui .vector (B i) 9#32) 1065353216#32
  simp only [IntOp.shrui, if_pos (show (9#32).toNat < 32 by decide)]

/-- The Gumbel noise of an entry, by the bits of its uniform draw. -/
theorem gumbel_bits (B : IVec S128x100000 32) (i : S128x100000.Idx) :
    (Host.negf (Host.log (Host.negf (Host.log (maximumf (Ref.allF 0x00800000#32) (addf (mulf (subf
      (bitcastToFloat .f32 B) (Ref.allF 0x3F800000#32)) (Ref.allF 0x3F800000#32)) (Ref.allF (F := Ideal) 0x00800000#32)))))) i : EReal)
      = -Ideal.log (-Ideal.log (max (Ideal.ofBits .f32 0x00800000#32) ((Ideal.ofBits .f32 (B i)
        - Ideal.ofBits .f32 0x3F800000#32) * Ideal.ofBits .f32 0x3F800000#32 + Ideal.ofBits .f32 0x00800000#32))) := rfl

theorem gumbel_apply (i : S128x100000.Idx) : (Ref.gumbel (F := Ideal) Ref.words i : EReal)
    = -Ideal.log (-Ideal.log (max (Hash.tiny : EReal) (Hash.unitAt (Ref.start.2 i)))) := by
  unfold Ref.gumbel Ref.uniform
  rw [bits_eq, gumbel_bits, Hash.bits_apply, Hash.unitAt, Hash.ofBits_tiny, Hash.ofBits_one, EReal.coe_one, mul_one]

/-- In a row whose largest entry is finite the perturbed logits are the scores plus one real number. -/
theorem noisy_row (A : FVec Ideal S128x100000 .f32) (r : Fin 128) (m : ℝ) (hm : rowMax A r = m) :
    ∃ C : ℝ, ∀ l : Fin 100000, (Ref.noisy A (ix2 r l) : EReal)
      = (A (ix2 r l) - Ideal.log (0 - Ideal.log (Hash.unitAt (Ref.start.2 (ix2 r l))))) + (C : EReal) := by
  obtain ⟨C, hC⟩ := softmax_row A r m hm
  refine ⟨C, fun l => ?_⟩
  obtain ⟨n, h1, h2⟩ := Hash.noise_real (Ref.start.2 (ix2 r l))
  unfold Ref.noisy
  rw [addf_apply, hostLog_apply, gumbel_apply, (hC l).2, h1, h2, sub_eq_add_neg, EReal.coe_neg]
  rw [← add_assoc, add_comm (-(n : EReal))]

end Cert.Proof.RefVal

end
-- ==== Proof.Value.lean ====
/-
  The kernel's result is the reference's, over the extended reals, where every row's largest entry is finite.
-/
module

public import proofs.«01_k».proof.Proof.Run
public import proofs.«01_k».proof.Proof.Winner
public import proofs.«01_k».proof.Proof.ArgMax
public import proofs.«01_k».proof.Proof.RefVal

@[expose] public section

noncomputable section

namespace Cert.Proof.Value

open Cert.KernelIdeal
open Idealize.ShloMosaic Idealize.ShloMosaic.ValueIdx
open Cert.Proof.ArgMax (at128 at128_eq)

/-! ## One-hot values -/

/-- The one-hot value of the column `n`, the winning column being `w`. -/
def hotAt (w : BitVec 32) (n : ℕ) : EReal := (((BitVec.ofBool (w == BitVec.ofNat 32 n)).toNat : ℝ) : EReal)

/-- A column less an offset is a lane just when the column is the offset plus the lane. -/
theorem lane_eq (w : BitVec 32) (o l : ℕ) :
    IntOp.cmpi .eq (BitVec.ofNat 32 l) (w - BitVec.ofNat 32 o) = BitVec.ofBool (w == BitVec.ofNat 32 (o + l)) := by
  change BitVec.ofBool (BitVec.ofNat 32 l == w - BitVec.ofNat 32 o) = _
  congr 1
  rw [Bool.eq_iff_iff, beq_iff_eq, beq_iff_eq, BitVec.ofNat_add, BitVec.add_comm]
  constructor
  · intro h; rw [h, BitVec.sub_add_cancel]
  · intro h; rw [h, BitVec.add_sub_cancel]

theorem uitofp_bit {s : Shape} (b : IVec s 1) (i : s.Idx) :
    (uitofp (F := Ideal) .f32 b i : EReal) = (((b i).toNat : ℝ) : EReal) := rfl

theorem cmpi_at {s : Shape} (x y : IVec s 32) (i : s.Idx) : cmpi .eq x y i = IntOp.cmpi .eq (x i) (y i) := rfl

theorem subi_at {s : Shape} (x : IVec s 32) (a : BitVec 32) (i : s.Idx) : subi x (broadcast s a) i = x i - a := rfl

/-- The lane's number. -/
theorem iota_lane {n : ℕ} (h : (⟨2, ![8, n]⟩ : Shape).Iotas .tc 32 [1]) (r : Fin 8) (l : Fin n) :
    iota .tc ⟨2, ![8, n]⟩ 32 [1] h (ix2 r l) = BitVec.ofNat 32 l.val := by
  change BitVec.ofNat 32 (0 * n + l.val) = _
  rw [Nat.zero_mul, Nat.zero_add]

theorem hot_apply (w : IVec S8x1 32) (k : ℕ) (r : Fin 8) (l : Fin 2048) :
    (Body.hot (F := Ideal) w k (ix2 r l) : EReal) = hotAt (w (ix2 r 0)) (k * 2048 + l.val) := by
  unfold Body.hot
  rw [sitofp_extui_eq_uitofp, uitofp_bit, cmpi_at, iota_lane, Winner.spread, subi_at, lane_eq]
  rfl

theorem hotRem_apply (w : IVec S8x1 32) (r : Fin 8) (l : Fin 1696) :
    (Body.hotRem (F := Ideal) w (ix2 r l) : EReal) = hotAt (w (ix2 r 0)) (98304 + l.val) := by
  unfold Body.hotRem
  rw [sitofp_extui_eq_uitofp, uitofp_bit, cmpi_at, iota_lane, Winner.spread, subi_at]
  rw [show (98304#32 : BitVec 32) = BitVec.ofNat 32 98304 from rfl, lane_eq]
  rfl

/-- The kernel's rows, column by column. -/
theorem hotRows_apply (w : IVec S8x1 32) (r : Fin 8) (n : Fin 100000) :
    (Body.hotRows (F := Ideal) w (ix2 r n) : EReal) = hotAt (w (ix2 r 0)) n.val := by
  have hn := n.isLt
  unfold Body.hotRows
  change (if n.val < 98304 then Body.hot (F := Ideal) w (n.val / 2048) (ix2 r (⟨n.val % 2048, _⟩ : Fin 2048))
    else Body.hotRem (F := Ideal) w (ix2 r (⟨(n.val - 98304) % 1696, _⟩ : Fin 1696)) : EReal) = _
  by_cases h : n.val < 98304
  · rw [if_pos h, hot_apply]
    exact congrArg (hotAt _) (by change n.val / 2048 * 2048 + n.val % 2048 = n.val; omega)
  · rw [if_neg h, hotRem_apply]
    exact congrArg (hotAt _) (by change 98304 + (n.val - 98304) % 1696 = n.val; omega)

/-- The reference's rows, column by column. -/
theorem oneHot_apply (w : IVec Cert.ReferenceIdeal.S128 32) (r : Fin 128) (n : Fin 100000) :
    (Ref.oneHot (F := Ideal) w (ix2 r n) : EReal) = hotAt (w (ix1 r)) n.val := by
  unfold Ref.oneHot
  rw [uitofp_bit, cmpi_at, RefVal.spread]
  rfl

/-! ## The two scores -/

/-- The kernel's counter in the row `r` of the block `b` is the reference's in the row 8b + r. -/
theorem counter_eq (b r n : ℕ) :
    BitVec.ofNat 32 (b * 800000) + 42#32 + BitVec.ofNat 32 r * 100000#32 + BitVec.ofNat 32 n
      = BitVec.ofNat 32 (8 * b + r) * 100000#32 + BitVec.ofNat 32 n + 42#32 := by
  have e : b * 800000 + 42 + r * 100000 + n = (8 * b + r) * 100000 + n + 42 := by ring
  rw [← BitVec.ofNat_mul, ← BitVec.ofNat_mul, ← BitVec.ofNat_add, ← BitVec.ofNat_add, ← BitVec.ofNat_add,
    ← BitVec.ofNat_add, ← BitVec.ofNat_add, e]

/-- A block's row is the array's. -/
theorem row_of_block (A : FVec Ideal S128x100000 .f32) (b : Fin 16) (r : Fin 8) (R : Fin 128) (hR : R.val = 8 * b.val + r.val)
    (n : ℕ) : Body.rowBlock A b (Body.at2 r n) = A (at128 R n) := by
  refine congrArg A (funext fun a => Fin.ext ?_)
  match a with
  | ⟨0, _⟩ =>
    change 8 * b.val + 1 * r.val = R.val
    omega
  | ⟨1, _⟩ =>
    change 0 + 1 * (n % 100000) = n % 100000
    omega

theorem start_apply (R : Fin 128) (n : ℕ) (h : n < 100000) :
    Ref.start.2 (at128 R n) = BitVec.ofNat 32 R.val * 100000#32 + BitVec.ofNat 32 n + 42#32 := by
  rw [at128_eq R n h]
  rfl

/-- The kernel's score of an entry is the reference's. -/
theorem rowScore_ref (A : FVec Ideal S128x100000 .f32) (b : Fin 16) (r : Fin 8) (R : Fin 128) (hR : R.val = 8 * b.val + r.val)
    (n : ℕ) (h : n < 100000) : Winner.rowScore (BitVec.ofNat 32 (b.val * 800000)) (Body.rowBlock A b) r n
      = A (at128 R n) - Ideal.log (0 - Ideal.log (Hash.unitAt (Ref.start.2 (at128 R n)))) := by
  rw [Winner.rowScore_eq, Winner.scoreAt, row_of_block A b r R hR, counter_eq, start_apply R n h, hR]

/-! ## The results -/

/-- The kernel's winning column of a row is the reference's arg-max. -/
theorem winner_eq (A : FVec Ideal S128x100000 .f32) (h : Cert.Pre_finite_max.fn (F := Ideal) A = fun _ => 1#1)
    (b : Fin 16) (r : Fin 8) (R : Fin 128) (hR : R.val = 8 * b.val + r.val) :
    Body.winner (BitVec.ofNat 32 (b.val * 800000)) (Body.rowBlock A b) (ix2 r 0) = Ref.argmax (Ref.noisy A) (ix1 R) := by
  obtain ⟨m, hm⟩ := RefVal.finite A h R
  obtain ⟨C, hC⟩ := RefVal.noisy_row A R m hm
  obtain ⟨-, l0, hl0⟩ := fold_max fun l : Fin 100000 => A (ix2 R l)
  obtain ⟨t, ht, -⟩ := Hash.noise_real (Ref.start.2 (ix2 R l0))
  have hbig : (⊥ : EReal) < Ref.noisy A (at128 R l0.val) := by
    rw [at128_eq R l0.val l0.isLt]
    refine lt_of_lt_of_eq ?_ (hC l0).symm
    have h0 : (A (ix2 R l0) : EReal) = m := hl0.symm.trans hm
    rw [ht, h0, ← EReal.coe_sub, ← EReal.coe_add]
    exact EReal.bot_lt_coe _
  obtain ⟨c, hc, hF⟩ := Winner.winner_first (BitVec.ofNat 32 (b.val * 800000)) (Body.rowBlock A b) r
  obtain ⟨d, hd, hG⟩ := ArgMax.argmax_first (Ref.noisy A) R l0.val l0.isLt hbig
  have hcd : c = d := (hF.of_order (g := fun n => Ref.noisy A (at128 R n)) fun k l hk hl => by
    rw [rowScore_ref A b r R hR k hk, rowScore_ref A b r R hR l hl]
    change _ ↔ (Ref.noisy A (at128 R k) : EReal) ≤ Ref.noisy A (at128 R l)
    rw [at128_eq R k hk, at128_eq R l hl]
    have e1 := hC ⟨k, hk⟩
    have e2 := hC ⟨l, hl⟩
    rw [e1, e2]
    exact (EReal.addLECancellable_coe C).add_le_add_iff_right.symm).unique hG
  rw [hc, hd, hcd]

/-- The softmax less itself is zero. -/
theorem zero_apply (A : FVec Ideal S128x100000 .f32) (h : Cert.Pre_finite_max.fn (F := Ideal) A = fun _ => 1#1)
    (R : Fin 128) (n : Fin 100000) : (Ref.softmax A (ix2 R n) : EReal) - Ref.softmax A (ix2 R n) = 0 := by
  obtain ⟨m, hm⟩ := RefVal.finite A h R
  obtain ⟨C, hC⟩ := RefVal.softmax_row A R m hm
  exact (hC n).1

/-- The kernel's result is the reference's. -/
theorem result_eq (A : FVec Ideal S128x100000 .f32) (h : Cert.Pre_finite_max.fn (F := Ideal) A = fun _ => 1#1) :
    Run.result A = Ref.result A := by
  funext i
  obtain ⟨R, n, rfl⟩ : ∃ (R : Fin 128) (n : Fin 100000), i = ix2 R n := ⟨i 0, i 1, eq_ix2 i⟩
  have hlt := R.isLt
  have hl : (Run.result A (ix2 R n) : EReal) = hotAt (Body.winner (BitVec.ofNat 32 (R.val / 8 * 800000))
      (Body.rowBlock A ⟨R.val / 8, by omega⟩) (ix2 (⟨R.val % 8, Nat.mod_lt _ (by norm_num)⟩ : Fin 8) 0)) n.val :=
    hotRows_apply _ _ n
  have hr : (Ref.result A (ix2 R n) : EReal) = hotAt (Ref.argmax (Ref.noisy A) (ix1 R)) n.val := by
    unfold Ref.result
    rw [addf_apply, subf_apply, zero_apply A h, add_zero, oneHot_apply]
  refine hl.trans (Eq.trans ?_ hr.symm)
  exact congrArg (fun w => hotAt w n.val) (winner_eq A h ⟨R.val / 8, by omega⟩ ⟨R.val % 8, Nat.mod_lt _ (by norm_num)⟩ R
    (by change R.val = 8 * (R.val / 8) + R.val % 8; omega))

end Cert.Proof.Value

end
-- ==== Proof.lean ====
/-
  The proof of `Cert.Claim`. Run.lean has the kernel's run for any float values and Ref.lean the reference's; both
  frames and the kernel's value are read off them. Value.lean shows the two results equal over the extended reals.
-/
module

public import proofs.«01_k».proof.Defs
public import proofs.«01_k».proof.Proof.Gen.Kernel
public import proofs.«01_k».proof.Proof.Run
public import proofs.«01_k».proof.Proof.Ref
public import proofs.«01_k».proof.Proof.Value
public import proofs.«01_k».proof.Proof.Gen.Pre_finite_max
public import Idealize.ShloMosaic.Adequacy
public import Idealize.ShloMosaic.Init

@[expose] public section

noncomputable section

namespace Cert.Proof

open Idealize.ShloMosaic Idealize.ShloMosaic.TcCoe Idealize.SL.Sem

/-- The two printed programs of the kernel have the same text: the same @main … -/
theorem main_same : Cert.Kernel.main (F := Bits) = Cert.KernelIdeal.main (F := Bits) := rfl

/-- … and the same body table. -/
theorem defs_same : Cert.Kernel.defs (F := Bits) = Cert.KernelIdeal.defs (F := Bits) := rfl

/-- The kernel at machine floats ends with its argument unchanged and every semaphore at zero. -/
theorem frame_kernel : Cert.quiescent_Kernel := fun m g _ =>
  (θ_run Cert.Kernel.defs _ _).mono (fun _ h => ⟨fun c => (h.1 c).1, h.2⟩) (Run.run_value (F := Bits) m g)

/-- The same over the extended reals. -/
theorem frame_ideal : Cert.quiescent_KernelIdeal := fun m g _ =>
  (θ_run Cert.KernelIdeal.defs _ _).mono (fun _ h => ⟨fun c => (h.1 c).1, h.2⟩) (Run.run_value (F := Ideal) m g)

/-- The reference over the extended reals ends with its argument unchanged; it has no semaphore. -/
theorem frame_ref : Cert.quiescent_ReferenceIdeal := fun m g _ =>
  (θ_run Cert.ReferenceIdeal.defs _ _).mono (fun _ h => ⟨fun c => (h.1 c).1, h.2⟩) (Ref.run_value (F := Ideal) m g)

/-- On rows with a finite maximum the kernel's result is the reference's. -/
theorem equal : Cert.algebraic_KernelIdeal_ReferenceIdeal_pre_finite_max := by
  intro m g m' g' hpre hm
  refine ⟨fun c => Run.result (F := Ideal) (Run.V m c Cert.KernelIdeal.main_arg0), ?_, ?_⟩
  · exact (θ_run Cert.KernelIdeal.defs _ _).mono (fun _ h c => ⟨(h.1 c).2, (h.1 c).1⟩) (Run.run_value (F := Ideal) m g)
  · exact (θ_run Cert.ReferenceIdeal.defs _ _).mono (fun _ h c =>
      ⟨(h.1 c).2.trans ((congrArg Ref.result (hm c)).trans (Value.result_eq _ (hpre c)).symm), (h.1 c).1⟩)
      (Ref.run_value (F := Ideal) m' g')

theorem claim : Cert.Claim :=
  ⟨Cert.Kernel.Gen.facts, Cert.KernelIdeal.Gen.facts, Cert.ReferenceIdeal.Gen.facts, Cert.Pre_finite_max.Gen.facts,
    frame_kernel, frame_ideal, fun m g _ => frame_ideal m g trivial, frame_ref, fun m g _ => frame_ref m g trivial,
    trivial, equal⟩

end Cert.Proof

end
